-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_all_finite : Cert.Pre_all_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ preserves_Kernel_KernelIdeal
    ∧ algebraic_KernelIdeal_ReferenceIdeal_pre_all_finite (hKernelIdeal := hKernelIdeal) (hReferenceIdeal := hReferenceIdeal) (hPre_all_finite := hPre_all_finite)
-- ==== Pre_all_finite.lean ====
abbrev S8x192x56x56 : Shape := ⟨4, ![8, 192, 56, 56]⟩
abbrev S4x4x48x48 : Shape := ⟨4, ![4, 4, 48, 48]⟩
abbrev S4x192 : Shape := ⟨2, ![4, 192]⟩
abbrev S4x576 : Shape := ⟨2, ![4, 576]⟩
abbrev S4x192x192 : Shape := ⟨3, ![4, 192, 192]⟩
abbrev S_ : Shape := ⟨0, ![]⟩

class Facts : Prop where
  bcast_S_S8x192x56x56 : S_.BroadcastsInDim S8x192x56x56 (![] : Fin 0 → Fin S8x192x56x56.rank)
  reducesTo_S8x192x56x56_S_d0_1_2_3 : S8x192x56x56.ReducesTo [0, 1, 2, 3] S_
  h_S_ : 0 < S_.numel
  bcast_S_S4x4x48x48 : S_.BroadcastsInDim S4x4x48x48 (![] : Fin 0 → Fin S4x4x48x48.rank)
  reducesTo_S4x4x48x48_S_d0_1_2_3 : S4x4x48x48.ReducesTo [0, 1, 2, 3] S_
  bcast_S_S4x192 : S_.BroadcastsInDim S4x192 (![] : Fin 0 → Fin S4x192.rank)
  reducesTo_S4x192_S_d0_1 : S4x192.ReducesTo [0, 1] S_
  bcast_S_S4x576 : S_.BroadcastsInDim S4x576 (![] : Fin 0 → Fin S4x576.rank)
  reducesTo_S4x576_S_d0_1 : S4x576.ReducesTo [0, 1] S_
  bcast_S_S4x192x192 : S_.BroadcastsInDim S4x192x192 (![] : Fin 0 → Fin S4x192x192.rank)
  reducesTo_S4x192x192_S_d0_1_2 : S4x192x192.ReducesTo [0, 1, 2] S_

variable [Facts]

def fn_part1 {F : FTy → Type} [FloatOps F] (main_arg4 : FVec F S4x192x192 .f32) (main_arg5 : FVec F S4x192 .f32) (main_v13 : IVec S_ 1) (main_v16 : IVec S4x576 1) : IVec S_ 1 :=
  let main_c_5 : IVec S_ 1 := constantI S_ 1 1#1
  let main_v17 : IVec S_ 1 := (fun x v => Host.reduce IntOp.andi x v reducesTo_S4x576_S_d0_1 h_S_) main_v16 main_c_5
  let main_v18 : IVec S_ 1 := andi main_v13 main_v17
  let main_v19 : FVec F S4x192x192 .f32 := Host.absf main_arg4
  let main_cst_6 : FVec F S_ .f32 := constant S_ .f32 0x7F800000#32
  let main_v20 : FVec F S4x192x192 .f32 := broadcastInDim S4x192x192 ![] bcast_S_S4x192x192 main_cst_6
  let main_v21 : IVec S4x192x192 1 := cmpf .olt main_v19 main_v20
  let main_c_7 : IVec S_ 1 := constantI S_ 1 1#1
  let main_v22 : IVec S_ 1 := (fun x v => Host.reduce IntOp.andi x v reducesTo_S4x192x192_S_d0_1_2 h_S_) main_v21 main_c_7
  let main_v23 : IVec S_ 1 := andi main_v18 main_v22
  let main_v24 : FVec F S4x192 .f32 := Host.absf main_arg5
  let main_cst_8 : FVec F S_ .f32 := constant S_ .f32 0x7F800000#32
  let main_v25 : FVec F S4x192 .f32 := broadcastInDim S4x192 ![] bcast_S_S4x192 main_cst_8
  let main_v26 : IVec S4x192 1 := cmpf .olt main_v24 main_v25
  let main_c_9 : IVec S_ 1 := constantI S_ 1 1#1
  let main_v27 : IVec S_ 1 := (fun x v => Host.reduce IntOp.andi x v reducesTo_S4x192_S_d0_1 h_S_) main_v26 main_c_9
  let main_v28 : IVec S_ 1 := andi main_v23 main_v27
  main_v28

def fn {F : FTy → Type} [FloatOps F] (main_arg0 : FVec F S8x192x56x56 .f32) (main_arg1 : FVec F S4x4x48x48 .f32) (main_arg2 : FVec F S4x192 .f32) (main_arg3 : FVec F S4x576 .f32) (main_arg4 : FVec F S4x192x192 .f32) (main_arg5 : FVec F S4x192 .f32) : IVec S_ 1 :=
  let main_v0 : FVec F S8x192x56x56 .f32 := Host.absf main_arg0
  let main_cst : FVec F S_ .f32 := constant S_ .f32 0x7F800000#32
  let main_v1 : FVec F S8x192x56x56 .f32 := broadcastInDim S8x192x56x56 ![] bcast_S_S8x192x56x56 main_cst
  let main_v2 : IVec S8x192x56x56 1 := cmpf .olt main_v0 main_v1
  let main_c : IVec S_ 1 := constantI S_ 1 1#1
  let main_v3 : IVec S_ 1 := (fun x v => Host.reduce IntOp.andi x v reducesTo_S8x192x56x56_S_d0_1_2_3 h_S_) main_v2 main_c
  let main_v4 : FVec F S4x4x48x48 .f32 := Host.absf main_arg1
  let main_cst_0 : FVec F S_ .f32 := constant S_ .f32 0x7F800000#32
  let main_v5 : FVec F S4x4x48x48 .f32 := broadcastInDim S4x4x48x48 ![] bcast_S_S4x4x48x48 main_cst_0
  let main_v6 : IVec S4x4x48x48 1 := cmpf .olt main_v4 main_v5
  let main_c_1 : IVec S_ 1 := constantI S_ 1 1#1
  let main_v7 : IVec S_ 1 := (fun x v => Host.reduce IntOp.andi x v reducesTo_S4x4x48x48_S_d0_1_2_3 h_S_) main_v6 main_c_1
  let main_v8 : IVec S_ 1 := andi main_v3 main_v7
  let main_v9 : FVec F S4x192 .f32 := Host.absf main_arg2
  let main_cst_2 : FVec F S_ .f32 := constant S_ .f32 0x7F800000#32
  let main_v10 : FVec F S4x192 .f32 := broadcastInDim S4x192 ![] bcast_S_S4x192 main_cst_2
  let main_v11 : IVec S4x192 1 := cmpf .olt main_v9 main_v10
  let main_c_3 : IVec S_ 1 := constantI S_ 1 1#1
  let main_v12 : IVec S_ 1 := (fun x v => Host.reduce IntOp.andi x v reducesTo_S4x192_S_d0_1 h_S_) main_v11 main_c_3
  let main_v13 : IVec S_ 1 := andi main_v8 main_v12
  let main_v14 : FVec F S4x576 .f32 := Host.absf main_arg3
  let main_cst_4 : FVec F S_ .f32 := constant S_ .f32 0x7F800000#32
  let main_v15 : FVec F S4x576 .f32 := broadcastInDim S4x576 ![] bcast_S_S4x576 main_cst_4
  let main_v16 : IVec S4x576 1 := cmpf .olt main_v14 main_v15
  fn_part1 (F := F) main_arg4 main_arg5 main_v13 main_v16
-- ==== Kernel.lean ====
abbrev S8x192x56x56 : Shape := ⟨4, ![8, 192, 56, 56]⟩
abbrev S4x4x48x48 : Shape := ⟨4, ![4, 4, 48, 48]⟩
abbrev S4x192 : Shape := ⟨2, ![4, 192]⟩
abbrev S4x576 : Shape := ⟨2, ![4, 576]⟩
abbrev S4x192x192 : Shape := ⟨3, ![4, 192, 192]⟩
abbrev S8x192x3136 : Shape := ⟨3, ![8, 192, 3136]⟩
abbrev S4x4 : Shape := ⟨2, ![4, 4]⟩
abbrev S_ : Shape := ⟨0, ![]⟩
abbrev S4x4x48x1x48 : Shape := ⟨5, ![4, 4, 48, 1, 48]⟩
abbrev S1x4x1x4x1 : Shape := ⟨5, ![1, 4, 1, 4, 1]⟩
abbrev S4x4x48x4x48 : Shape := ⟨5, ![4, 4, 48, 4, 48]⟩
abbrev S4x64x192 : Shape := ⟨3, ![4, 64, 192]⟩
abbrev S256x192 : Shape := ⟨2, ![256, 192]⟩
abbrev S768x192 : Shape := ⟨2, ![768, 192]⟩
abbrev S4x64x3 : Shape := ⟨3, ![4, 64, 3]⟩
abbrev S4x64 : Shape := ⟨2, ![4, 64]⟩
abbrev S4x1x64 : Shape := ⟨3, ![4, 1, 64]⟩
abbrev S4x1x192 : Shape := ⟨3, ![4, 1, 192]⟩
abbrev S4x192x64x3 : Shape := ⟨4, ![4, 192, 64, 3]⟩
abbrev S4x192x64 : Shape := ⟨3, ![4, 192, 64]⟩
abbrev S1x4x1x64 : Shape := ⟨4, ![1, 4, 1, 64]⟩
abbrev S1x4x4x64 : Shape := ⟨4, ![1, 4, 4, 64]⟩
abbrev S4x256 : Shape := ⟨2, ![4, 256]⟩
abbrev S4x768 : Shape := ⟨2, ![4, 768]⟩
abbrev S4x1x768 : Shape := ⟨3, ![4, 1, 768]⟩
abbrev S192x768 : Shape := ⟨2, ![192, 768]⟩
abbrev S1x192x3136 : Shape := ⟨3, ![1, 192, 3136]⟩
abbrev S192x3136 : Shape := ⟨2, ![192, 3136]⟩
abbrev S3136x768 : Shape := ⟨2, ![3136, 768]⟩
abbrev S28x112x768 : Shape := ⟨3, ![28, 112, 768]⟩
abbrev S28x56x768 : Shape := ⟨3, ![28, 56, 768]⟩
abbrev S1568x768 : Shape := ⟨2, ![1568, 768]⟩
abbrev S1567x768 : Shape := ⟨2, ![1567, 768]⟩
abbrev S1x768 : Shape := ⟨2, ![1, 768]⟩
abbrev S1x1x48x48 : Shape := ⟨4, ![1, 1, 48, 48]⟩
abbrev S48x48 : Shape := ⟨2, ![48, 48]⟩
abbrev S1x48x48 : Shape := ⟨3, ![1, 48, 48]⟩
abbrev S1 : Shape := ⟨1, ![1]⟩
abbrev S1x1x1 : Shape := ⟨3, ![1, 1, 1]⟩
abbrev S1x1568 : Shape := ⟨2, ![1, 1568]⟩
abbrev S192x192 : Shape := ⟨2, ![192, 192]⟩
abbrev S1x192 : Shape := ⟨2, ![1, 192]⟩
abbrev S1x1 : Shape := ⟨2, ![1, 1]⟩
abbrev S1x1x768 : Shape := ⟨3, ![1, 1, 768]⟩
abbrev S1568x64 : Shape := ⟨2, ![1568, 64]⟩
abbrev S1x64 : Shape := ⟨2, ![1, 64]⟩
abbrev S1x1x64 : Shape := ⟨3, ![1, 1, 64]⟩
abbrev S4x1568 : Shape := ⟨2, ![4, 1568]⟩
abbrev S4 : Shape := ⟨1, ![4]⟩
abbrev S4x1 : Shape := ⟨2, ![4, 1]⟩
abbrev S64 : Shape := ⟨1, ![64]⟩
abbrev S1x64x192 : Shape := ⟨3, ![1, 64, 192]⟩
abbrev S64x192 : Shape := ⟨2, ![64, 192]⟩
abbrev S1x1x192 : Shape := ⟨3, ![1, 1, 192]⟩
abbrev S192x1 : Shape := ⟨2, ![192, 1]⟩

abbrev nBuf : Space → Nat
  | .hbm => 64
  | .vmem => 11
  | .smem => 0
  | _ => 0

abbrev bufTy : (tb : Table) → Fin (tcTables nBuf tb) → BufTy
  | .hbm, ⟨0, _⟩ => ⟨S8x192x56x56, .f32⟩
  | .hbm, ⟨1, _⟩ => ⟨S4x4x48x48, .f32⟩
  | .hbm, ⟨2, _⟩ => ⟨S4x192, .f32⟩
  | .hbm, ⟨3, _⟩ => ⟨S4x576, .f32⟩
  | .hbm, ⟨4, _⟩ => ⟨S4x192x192, .f32⟩
  | .hbm, ⟨5, _⟩ => ⟨S4x192, .f32⟩
  | .hbm, ⟨6, _⟩ => ⟨S8x192x3136, .f32⟩
  | .hbm, ⟨7, _⟩ => ⟨S4x4, .i32⟩
  | .hbm, ⟨8, _⟩ => ⟨S4x4, .i32⟩
  | .hbm, ⟨9, _⟩ => ⟨S_, .i32⟩
  | .hbm, ⟨10, _⟩ => ⟨S4x4, .i32⟩
  | .hbm, ⟨11, _⟩ => ⟨S4x4, .i32⟩
  | .hbm, ⟨12, _⟩ => ⟨S4x4, .i1⟩
  | .hbm, ⟨13, _⟩ => ⟨S4x4, .f32⟩
  | .hbm, ⟨14, _⟩ => ⟨S4x4x48x1x48, .f32⟩
  | .hbm, ⟨15, _⟩ => ⟨S1x4x1x4x1, .f32⟩
  | .hbm, ⟨16, _⟩ => ⟨S4x4x48x4x48, .f32⟩
  | .hbm, ⟨17, _⟩ => ⟨S4x4x48x4x48, .f32⟩
  | .hbm, ⟨18, _⟩ => ⟨S4x4x48x4x48, .f32⟩
  | .hbm, ⟨19, _⟩ => ⟨S4x192x192, .f32⟩
  | .hbm, ⟨20, _⟩ => ⟨S4x64x192, .f32⟩
  | .hbm, ⟨21, _⟩ => ⟨S256x192, .f32⟩
  | .hbm, ⟨22, _⟩ => ⟨S4x64x192, .f32⟩
  | .hbm, ⟨23, _⟩ => ⟨S256x192, .f32⟩
  | .hbm, ⟨24, _⟩ => ⟨S4x64x192, .f32⟩
  | .hbm, ⟨25, _⟩ => ⟨S256x192, .f32⟩
  | .hbm, ⟨26, _⟩ => ⟨S768x192, .f32⟩
  | .hbm, ⟨27, _⟩ => ⟨S4x192, .f32⟩
  | .hbm, ⟨28, _⟩ => ⟨S4x192, .f32⟩
  | .hbm, ⟨29, _⟩ => ⟨S4x192, .f32⟩
  | .hbm, ⟨30, _⟩ => ⟨S4x64x3, .f32⟩
  | .hbm, ⟨31, _⟩ => ⟨S_, .f32⟩
  | .hbm, ⟨32, _⟩ => ⟨S4x64, .f32⟩
  | .hbm, ⟨33, _⟩ => ⟨S_, .f32⟩
  | .hbm, ⟨34, _⟩ => ⟨S4x64, .f32⟩
  | .hbm, ⟨35, _⟩ => ⟨S4x64, .f32⟩
  | .hbm, ⟨36, _⟩ => ⟨S4x1x64, .f32⟩
  | .hbm, ⟨37, _⟩ => ⟨S4x192, .f32⟩
  | .hbm, ⟨38, _⟩ => ⟨S4x1x192, .f32⟩
  | .hbm, ⟨39, _⟩ => ⟨S4x192x192, .f32⟩
  | .hbm, ⟨40, _⟩ => ⟨S4x192x192, .f32⟩
  | .hbm, ⟨41, _⟩ => ⟨S4x192x64x3, .f32⟩
  | .hbm, ⟨42, _⟩ => ⟨S_, .f32⟩
  | .hbm, ⟨43, _⟩ => ⟨S4x192x64, .f32⟩
  | .hbm, ⟨44, _⟩ => ⟨S4x64x192, .f32⟩
  | .hbm, ⟨45, _⟩ => ⟨S4x64, .f32⟩
  | .hbm, ⟨46, _⟩ => ⟨S1x4x1x64, .f32⟩
  | .hbm, ⟨47, _⟩ => ⟨S1x4x4x64, .f32⟩
  | .hbm, ⟨48, _⟩ => ⟨S4x256, .f32⟩
  | .hbm, ⟨49, _⟩ => ⟨S4x64, .f32⟩
  | .hbm, ⟨50, _⟩ => ⟨S1x4x1x64, .f32⟩
  | .hbm, ⟨51, _⟩ => ⟨S1x4x4x64, .f32⟩
  | .hbm, ⟨52, _⟩ => ⟨S4x256, .f32⟩
  | .hbm, ⟨53, _⟩ => ⟨S4x64, .f32⟩
  | .hbm, ⟨54, _⟩ => ⟨S1x4x1x64, .f32⟩
  | .hbm, ⟨55, _⟩ => ⟨S1x4x4x64, .f32⟩
  | .hbm, ⟨56, _⟩ => ⟨S4x256, .f32⟩
  | .hbm, ⟨57, _⟩ => ⟨S4x768, .f32⟩
  | .hbm, ⟨58, _⟩ => ⟨S4x1x768, .f32⟩
  | .hbm, ⟨59, _⟩ => ⟨S4x1x192, .f32⟩
  | .hbm, ⟨60, _⟩ => ⟨S768x192, .bf16⟩
  | .hbm, ⟨61, _⟩ => ⟨S192x768, .f32⟩
  | .hbm, ⟨62, _⟩ => ⟨S8x192x3136, .f32⟩
  | .hbm, ⟨63, _⟩ => ⟨S8x192x56x56, .f32⟩
  | .local _ .vmem, ⟨0, _⟩ => ⟨S1x192x3136, .f32⟩
  | .local _ .vmem, ⟨1, _⟩ => ⟨S1x192x3136, .f32⟩
  | .local _ .vmem, ⟨2, _⟩ => ⟨S768x192, .bf16⟩
  | .local _ .vmem, ⟨3, _⟩ => ⟨S192x768, .f32⟩
  | .local _ .vmem, ⟨4, _⟩ => ⟨S4x4x48x48, .f32⟩
  | .local _ .vmem, ⟨5, _⟩ => ⟨S4x1x768, .f32⟩
  | .local _ .vmem, ⟨6, _⟩ => ⟨S4x1x64, .f32⟩
  | .local _ .vmem, ⟨7, _⟩ => ⟨S4x64x192, .f32⟩
  | .local _ .vmem, ⟨8, _⟩ => ⟨S4x1x192, .f32⟩
  | .local _ .vmem, ⟨9, _⟩ => ⟨S1x192x3136, .f32⟩
  | .local _ .vmem, ⟨10, _⟩ => ⟨S1x192x3136, .f32⟩
  | _, _ => ⟨S8x192x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst : Ref sig .tc := ⟨.hbm, 31, rfl⟩
abbrev main_v24 : Ref sig .tc := ⟨.hbm, 32, rfl⟩
abbrev main_cst_0 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_1 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x192x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S192x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x4x48x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x64x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x192x3136 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S8x192x56x56 : Shape := ⟨4, ![8, 192, 56, 56]⟩
abbrev S4x4x48x48 : Shape := ⟨4, ![4, 4, 48, 48]⟩
abbrev S4x192 : Shape := ⟨2, ![4, 192]⟩
abbrev S4x576 : Shape := ⟨2, ![4, 576]⟩
abbrev S4x192x192 : Shape := ⟨3, ![4, 192, 192]⟩
abbrev S_ : Shape := ⟨0, ![]⟩
abbrev S1x4x48x48 : Shape := ⟨4, ![1, 4, 48, 48]⟩
abbrev S4x48x48 : Shape := ⟨3, ![4, 48, 48]⟩
abbrev S1x192 : Shape := ⟨2, ![1, 192]⟩
abbrev S192 : Shape := ⟨1, ![192]⟩
abbrev S1x576 : Shape := ⟨2, ![1, 576]⟩
abbrev S576 : Shape := ⟨1, ![576]⟩
abbrev S1x192x192 : Shape := ⟨3, ![1, 192, 192]⟩
abbrev S192x192 : Shape := ⟨2, ![192, 192]⟩
abbrev S8x192x3136 : Shape := ⟨3, ![8, 192, 3136]⟩
abbrev S8x4x48x3136 : Shape := ⟨4, ![8, 4, 48, 3136]⟩
abbrev S4x8x3136x48 : Shape := ⟨4, ![4, 8, 3136, 48]⟩
abbrev S1x192x1 : Shape := ⟨3, ![1, 192, 1]⟩
abbrev S8x192x28x28 : Shape := ⟨4, ![8, 192, 28, 28]⟩
abbrev S1x576x1x1 : Shape := ⟨4, ![1, 576, 1, 1]⟩
abbrev S8x192x3x28x28 : Shape := ⟨5, ![8, 192, 3, 28, 28]⟩
abbrev S8x576x28x28 : Shape := ⟨4, ![8, 576, 28, 28]⟩
abbrev S8x4x48x784 : Shape := ⟨4, ![8, 4, 48, 784]⟩
abbrev S8x4x784 : Shape := ⟨3, ![8, 4, 784]⟩
abbrev S8x4x1x784 : Shape := ⟨4, ![8, 4, 1, 784]⟩
abbrev S8x4x1 : Shape := ⟨3, ![8, 4, 1]⟩
abbrev S8x4x1x1 : Shape := ⟨4, ![8, 4, 1, 1]⟩
abbrev S8x4x48 : Shape := ⟨3, ![8, 4, 48]⟩
abbrev S8x192x1x1 : Shape := ⟨4, ![8, 192, 1, 1]⟩
abbrev S56 : Shape := ⟨1, ![56]⟩
abbrev S1x56 : Shape := ⟨2, ![1, 56]⟩
abbrev S28 : Shape := ⟨1, ![28]⟩
abbrev S28x1 : Shape := ⟨2, ![28, 1]⟩
abbrev S28x56 : Shape := ⟨2, ![28, 56]⟩
abbrev S56x8x192x28 : Shape := ⟨4, ![56, 8, 192, 28]⟩
abbrev S56x8x192x56 : Shape := ⟨4, ![56, 8, 192, 56]⟩
abbrev S8x56x56x192 : Shape := ⟨4, ![8, 56, 56, 192]⟩
abbrev S1x192x1x1 : Shape := ⟨4, ![1, 192, 1, 1]⟩
abbrev S48x48 : Shape := ⟨2, ![48, 48]⟩
abbrev S1x48x48 : Shape := ⟨3, ![1, 48, 48]⟩

abbrev nBuf : Space → Nat
  | .hbm => 261
  | .vmem => 0
  | .smem => 0
  | _ => 0

abbrev hbmTy0_0 (i : Nat) : BufTy := match i % 128 with
  | 0 => ⟨S8x192x56x56, .f32⟩
  | 1 => ⟨S4x4x48x48, .f32⟩
  | 2 => ⟨S4x192, .f32⟩
  | 3 => ⟨S4x576, .f32⟩
  | 4 => ⟨S4x192x192, .f32⟩
  | 5 => ⟨S4x192, .f32⟩
  | 6 => ⟨S_, .i32⟩
  | 7 => ⟨S_, .i32⟩
  | 8 => ⟨S4x4x48x48, .f32⟩
  | 9 => ⟨S4x192, .f32⟩
  | 10 => ⟨S4x576, .f32⟩
  | 11 => ⟨S4x192x192, .f32⟩
  | 12 => ⟨S4x192, .f32⟩
  | 13 => ⟨S_, .i32⟩
  | 14 => ⟨S_, .i32⟩
  | 15 => ⟨S8x192x56x56, .f32⟩
  | 16 => ⟨S_, .i32⟩
  | 17 => ⟨S_, .i1⟩
  | 18 => ⟨S_, .i32⟩
  | 19 => ⟨S_, .i32⟩
  | 20 => ⟨S_, .i32⟩
  | 21 => ⟨S_, .i32⟩
  | 22 => ⟨S_, .i1⟩
  | 23 => ⟨S_, .i32⟩
  | 24 => ⟨S_, .i32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S_, .i32⟩
  | 48 => ⟨S_, .i32⟩
  | 49 => ⟨S_, .i32⟩
  | 50 => ⟨S1x4x48x48, .f32⟩
  | 51 => ⟨S4x48x48, .f32⟩
  | 52 => ⟨S_, .i32⟩
  | 53 => ⟨S_, .i32⟩
  | 54 => ⟨S_, .i1⟩
  | 55 => ⟨S_, .i32⟩
  | 56 => ⟨S_, .i32⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S_, .i32⟩
  | 64 => ⟨S_, .i32⟩
  | 65 => ⟨S_, .i32⟩
  | 66 => ⟨S1x192, .f32⟩
  | 67 => ⟨S192, .f32⟩
  | 68 => ⟨S_, .i32⟩
  | 69 => ⟨S_, .i32⟩
  | 70 => ⟨S_, .i1⟩
  | 71 => ⟨S_, .i32⟩
  | 72 => ⟨S_, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S_, .i32⟩
  | 80 => ⟨S_, .i32⟩
  | 81 => ⟨S_, .i32⟩
  | 82 => ⟨S1x576, .f32⟩
  | 83 => ⟨S576, .f32⟩
  | 84 => ⟨S_, .i32⟩
  | 85 => ⟨S_, .i32⟩
  | 86 => ⟨S_, .i1⟩
  | 87 => ⟨S_, .i32⟩
  | 88 => ⟨S_, .i32⟩
  | 89 => ⟨S_, .i32⟩
  | 90 => ⟨S_, .i32⟩
  | 91 => ⟨S_, .i32⟩
  | 92 => ⟨S_, .i1⟩
  | 93 => ⟨S_, .i32⟩
  | 94 => ⟨S_, .i32⟩
  | 95 => ⟨S_, .i32⟩
  | 96 => ⟨S_, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S_, .i32⟩
  | 104 => ⟨S_, .i32⟩
  | 105 => ⟨S_, .i32⟩
  | 106 => ⟨S1x192x192, .f32⟩
  | 107 => ⟨S192x192, .f32⟩
  | 108 => ⟨S_, .i32⟩
  | 109 => ⟨S_, .i32⟩
  | 110 => ⟨S_, .i1⟩
  | 111 => ⟨S_, .i32⟩
  | 112 => ⟨S_, .i32⟩
  | 113 => ⟨S_, .i32⟩
  | 114 => ⟨S_, .i32⟩
  | 115 => ⟨S_, .i32⟩
  | 116 => ⟨S_, .i1⟩
  | 117 => ⟨S_, .i32⟩
  | 118 => ⟨S_, .i32⟩
  | 119 => ⟨S_, .i32⟩
  | 120 => ⟨S_, .i32⟩
  | 121 => ⟨S_, .i32⟩
  | 122 => ⟨S1x192, .f32⟩
  | 123 => ⟨S192, .f32⟩
  | 124 => ⟨S8x192x3136, .f32⟩
  | 125 => ⟨S8x4x48x3136, .f32⟩
  | 126 => ⟨S4x8x3136x48, .f32⟩
  | 127 => ⟨S8x4x48x3136, .f32⟩
  | _ => ⟨S8x192x56x56, .f32⟩

abbrev hbmTy0_1 (i : Nat) : BufTy := match i % 128 with
  | 0 => ⟨S8x192x3136, .f32⟩
  | 1 => ⟨S1x192x1, .f32⟩
  | 2 => ⟨S8x192x3136, .f32⟩
  | 3 => ⟨S8x192x3136, .f32⟩
  | 4 => ⟨S8x192x56x56, .f32⟩
  | 5 => ⟨S_, .f32⟩
  | 6 => ⟨S_, .f32⟩
  | 7 => ⟨S8x192x28x28, .f32⟩
  | 8 => ⟨S1x576x1x1, .f32⟩
  | 9 => ⟨S8x192x3x28x28, .f32⟩
  | 10 => ⟨S8x576x28x28, .f32⟩
  | 11 => ⟨S8x576x28x28, .f32⟩
  | 12 => ⟨S8x576x28x28, .f32⟩
  | 13 => ⟨S8x192x28x28, .f32⟩
  | 14 => ⟨S8x192x28x28, .f32⟩
  | 15 => ⟨S8x192x28x28, .f32⟩
  | 16 => ⟨S8x4x48x784, .f32⟩
  | 17 => ⟨S8x4x48x784, .f32⟩
  | 18 => ⟨S8x4x48x784, .f32⟩
  | 19 => ⟨S8x4x48x784, .f32⟩
  | 20 => ⟨S_, .f32⟩
  | 21 => ⟨S8x4x784, .f32⟩
  | 22 => ⟨S8x4x1x784, .f32⟩
  | 23 => ⟨S_, .f32⟩
  | 24 => ⟨S8x4x1x784, .f32⟩
  | 25 => ⟨S8x4x1x784, .f32⟩
  | 26 => ⟨S_, .f32⟩
  | 27 => ⟨S8x4x1, .f32⟩
  | 28 => ⟨S_, .f32⟩
  | 29 => ⟨S8x4x1, .f32⟩
  | 30 => ⟨S8x4x1, .f32⟩
  | 31 => ⟨S8x4x1x1, .f32⟩
  | 32 => ⟨S8x4x1x784, .f32⟩
  | 33 => ⟨S8x4x1x784, .f32⟩
  | 34 => ⟨S8x4x1x784, .f32⟩
  | 35 => ⟨S_, .f32⟩
  | 36 => ⟨S8x4x1, .f32⟩
  | 37 => ⟨S8x4x1x1, .f32⟩
  | 38 => ⟨S8x4x1x784, .f32⟩
  | 39 => ⟨S8x4x1x784, .f32⟩
  | 40 => ⟨S8x4x48x784, .f32⟩
  | 41 => ⟨S8x4x48x784, .f32⟩
  | 42 => ⟨S_, .f32⟩
  | 43 => ⟨S8x4x48, .f32⟩
  | 44 => ⟨S8x192x1x1, .f32⟩
  | 45 => ⟨S8x192x28x28, .f32⟩
  | 46 => ⟨S56, .f32⟩
  | 47 => ⟨S_, .f32⟩
  | 48 => ⟨S56, .f32⟩
  | 49 => ⟨S56, .f32⟩
  | 50 => ⟨S_, .f32⟩
  | 51 => ⟨S56, .f32⟩
  | 52 => ⟨S56, .f32⟩
  | 53 => ⟨S_, .f32⟩
  | 54 => ⟨S56, .f32⟩
  | 55 => ⟨S56, .f32⟩
  | 56 => ⟨S1x56, .f32⟩
  | 57 => ⟨S28, .f32⟩
  | 58 => ⟨S28x1, .f32⟩
  | 59 => ⟨S28x56, .f32⟩
  | 60 => ⟨S28x56, .f32⟩
  | 61 => ⟨S28x56, .f32⟩
  | 62 => ⟨S28x56, .f32⟩
  | 63 => ⟨S_, .f32⟩
  | 64 => ⟨S28x56, .f32⟩
  | 65 => ⟨S28x56, .f32⟩
  | 66 => ⟨S_, .f32⟩
  | 67 => ⟨S28x56, .f32⟩
  | 68 => ⟨S28x56, .f32⟩
  | 69 => ⟨S_, .f32⟩
  | 70 => ⟨S56, .f32⟩
  | 71 => ⟨S1x56, .f32⟩
  | 72 => ⟨S28x56, .f32⟩
  | 73 => ⟨S28x56, .f32⟩
  | 74 => ⟨S56, .f32⟩
  | 75 => ⟨S_, .f32⟩
  | 76 => ⟨S56, .f32⟩
  | 77 => ⟨S56, .f32⟩
  | 78 => ⟨S_, .f32⟩
  | 79 => ⟨S56, .f32⟩
  | 80 => ⟨S56, .f32⟩
  | 81 => ⟨S_, .f32⟩
  | 82 => ⟨S56, .f32⟩
  | 83 => ⟨S56, .f32⟩
  | 84 => ⟨S1x56, .f32⟩
  | 85 => ⟨S28, .f32⟩
  | 86 => ⟨S28x1, .f32⟩
  | 87 => ⟨S28x56, .f32⟩
  | 88 => ⟨S28x56, .f32⟩
  | 89 => ⟨S28x56, .f32⟩
  | 90 => ⟨S28x56, .f32⟩
  | 91 => ⟨S_, .f32⟩
  | 92 => ⟨S28x56, .f32⟩
  | 93 => ⟨S28x56, .f32⟩
  | 94 => ⟨S_, .f32⟩
  | 95 => ⟨S28x56, .f32⟩
  | 96 => ⟨S28x56, .f32⟩
  | 97 => ⟨S_, .f32⟩
  | 98 => ⟨S56, .f32⟩
  | 99 => ⟨S1x56, .f32⟩
  | 100 => ⟨S28x56, .f32⟩
  | 101 => ⟨S28x56, .f32⟩
  | 102 => ⟨S56x8x192x28, .f32⟩
  | 103 => ⟨S56x8x192x56, .f32⟩
  | 104 => ⟨S8x192x56x56, .f32⟩
  | 105 => ⟨S8x56x56x192, .f32⟩
  | 106 => ⟨S8x192x56x56, .f32⟩
  | 107 => ⟨S1x192x1x1, .f32⟩
  | 108 => ⟨S8x192x56x56, .f32⟩
  | 109 => ⟨S8x192x56x56, .f32⟩
  | 110 => ⟨S4x48x48, .f32⟩
  | 111 => ⟨S48x48, .i32⟩
  | 112 => ⟨S48x48, .i32⟩
  | 113 => ⟨S_, .i32⟩
  | 114 => ⟨S48x48, .i32⟩
  | 115 => ⟨S48x48, .i32⟩
  | 116 => ⟨S48x48, .i1⟩
  | 117 => ⟨S48x48, .f32⟩
  | 118 => ⟨S1x48x48, .f32⟩
  | 119 => ⟨S4x48x48, .f32⟩
  | 120 => ⟨S4x48x48, .f32⟩
  | 121 => ⟨S4x48x48, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S8x192x56x56, .f32⟩

abbrev hbmTy0_2 (i : Nat) : BufTy := match i % 128 with
  | 0 => ⟨S8x192x56x56, .f32⟩
  | 1 => ⟨S8x192x56x56, .f32⟩
  | 2 => ⟨S8x192x56x56, .f32⟩
  | 3 => ⟨S_, .i32⟩
  | 4 => ⟨S_, .i32⟩
  | _ => ⟨S8x192x56x56, .f32⟩

abbrev hbmTy (i : Nat) : BufTy := match i / 128 with
  | 0 => hbmTy0_0 i
  | 1 => hbmTy0_1 i
  | 2 => hbmTy0_2 i
  | _ => ⟨S8x192x56x56, .f32⟩

abbrev bufTy : (tb : Table) → Fin (tcTables nBuf tb) → BufTy
  | .hbm, ⟨i, _⟩ => hbmTy i
  | _, _ => ⟨S8x192x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev main_while0c_c_8 : Ref sig .tc := ⟨.hbm, 16, rfl⟩
abbrev main_while0c_v1 : Ref sig .tc := ⟨.hbm, 17, rfl⟩
abbrev main_while0b_c_8 : Ref sig .tc := ⟨.hbm, 18, rfl⟩
abbrev main_while0b_v1 : Ref sig .tc := ⟨.hbm, 19, rfl⟩
abbrev main_while0b_v2 : Ref sig .tc := ⟨.hbm, 20, rfl⟩
abbrev main_while0b_c_9 : Ref sig .tc := ⟨.hbm, 21, rfl⟩
abbrev main_while0b_v3 : Ref sig .tc := ⟨.hbm, 22, rfl⟩
abbrev main_while0b_c_10 : Ref sig .tc := ⟨.hbm, 23, rfl⟩
abbrev main_while0b_v4 : Ref sig .tc := ⟨.hbm, 24, rfl⟩
abbrev main_while0b_v5 : Ref sig .tc := ⟨.hbm, 25, rfl⟩
abbrev main_while0b_c_11 : Ref sig .tc := ⟨.hbm, 26, rfl⟩
abbrev main_while0b_c_12 : Ref sig .tc := ⟨.hbm, 27, rfl⟩
abbrev main_while0b_v6 : Ref sig .tc := ⟨.hbm, 28, rfl⟩
abbrev main_while0b_c_13 : Ref sig .tc := ⟨.hbm, 29, rfl⟩
abbrev main_while0b_c_14 : Ref sig .tc := ⟨.hbm, 30, rfl⟩
abbrev main_while0b_v7 : Ref sig .tc := ⟨.hbm, 31, rfl⟩
abbrev main_while0b_c_15 : Ref sig .tc := ⟨.hbm, 32, rfl⟩
abbrev main_while0b_v8 : Ref sig .tc := ⟨.hbm, 33, rfl⟩
abbrev main_while0b_c_16 : Ref sig .tc := ⟨.hbm, 34, rfl⟩
abbrev main_while0b_c_17 : Ref sig .tc := ⟨.hbm, 35, rfl⟩
abbrev main_while0b_v9 : Ref sig .tc := ⟨.hbm, 36, rfl⟩
abbrev main_while0b_c_18 : Ref sig .tc := ⟨.hbm, 37, rfl⟩
abbrev main_while0b_c_19 : Ref sig .tc := ⟨.hbm, 38, rfl⟩
abbrev main_while0b_v10 : Ref sig .tc := ⟨.hbm, 39, rfl⟩
abbrev main_while0b_c_20 : Ref sig .tc := ⟨.hbm, 40, rfl⟩
abbrev main_while0b_v11 : Ref sig .tc := ⟨.hbm, 41, rfl⟩
abbrev main_while0b_c_21 : Ref sig .tc := ⟨.hbm, 42, rfl⟩
abbrev main_while0b_c_22 : Ref sig .tc := ⟨.hbm, 43, rfl⟩
abbrev main_while0b_v12 : Ref sig .tc := ⟨.hbm, 44, rfl⟩
abbrev main_while0b_c_23 : Ref sig .tc := ⟨.hbm, 45, rfl⟩
abbrev main_while0b_c_24 : Ref sig .tc := ⟨.hbm, 46, rfl⟩
abbrev main_while0b_v13 : Ref sig .tc := ⟨.hbm, 47, rfl⟩
abbrev main_while0b_c_25 : Ref sig .tc := ⟨.hbm, 48, rfl⟩
abbrev main_while0b_v14 : Ref sig .tc := ⟨.hbm, 49, rfl⟩
abbrev main_while0b_v15 : Ref sig .tc := ⟨.hbm, 50, rfl⟩
abbrev main_while0b_v16 : Ref sig .tc := ⟨.hbm, 51, rfl⟩
abbrev main_while0b_v17 : Ref sig .tc := ⟨.hbm, 52, rfl⟩
abbrev main_while0b_c_26 : Ref sig .tc := ⟨.hbm, 53, rfl⟩
abbrev main_while0b_v18 : Ref sig .tc := ⟨.hbm, 54, rfl⟩
abbrev main_while0b_c_27 : Ref sig .tc := ⟨.hbm, 55, rfl⟩
abbrev main_while0b_v19 : Ref sig .tc := ⟨.hbm, 56, rfl⟩
abbrev main_while0b_v20 : Ref sig .tc := ⟨.hbm, 57, rfl⟩
abbrev main_while0b_c_28 : Ref sig .tc := ⟨.hbm, 58, rfl⟩
abbrev main_while0b_c_29 : Ref sig .tc := ⟨.hbm, 59, rfl⟩
abbrev main_while0b_v21 : Ref sig .tc := ⟨.hbm, 60, rfl⟩
abbrev main_while0b_c_30 : Ref sig .tc := ⟨.hbm, 61, rfl⟩
abbrev main_while0b_c_31 : Ref sig .tc := ⟨.hbm, 62, rfl⟩
abbrev main_while0b_v22 : Ref sig .tc := ⟨.hbm, 63, rfl⟩
abbrev main_while0b_c_32 : Ref sig .tc := ⟨.hbm, 64, rfl⟩
abbrev main_while0b_v23 : Ref sig .tc := ⟨.hbm, 65, rfl⟩
abbrev main_while0b_v24 : Ref sig .tc := ⟨.hbm, 66, rfl⟩
abbrev main_while0b_v25 : Ref sig .tc := ⟨.hbm, 67, rfl⟩
abbrev main_while0b_v26 : Ref sig .tc := ⟨.hbm, 68, rfl⟩
abbrev main_while0b_c_33 : Ref sig .tc := ⟨.hbm, 69, rfl⟩
abbrev main_while0b_v27 : Ref sig .tc := ⟨.hbm, 70, rfl⟩
abbrev main_while0b_c_34 : Ref sig .tc := ⟨.hbm, 71, rfl⟩
abbrev main_while0b_v28 : Ref sig .tc := ⟨.hbm, 72, rfl⟩
abbrev main_while0b_v29 : Ref sig .tc := ⟨.hbm, 73, rfl⟩
abbrev main_while0b_c_35 : Ref sig .tc := ⟨.hbm, 74, rfl⟩
abbrev main_while0b_c_36 : Ref sig .tc := ⟨.hbm, 75, rfl⟩
abbrev main_while0b_v30 : Ref sig .tc := ⟨.hbm, 76, rfl⟩
abbrev main_while0b_c_37 : Ref sig .tc := ⟨.hbm, 77, rfl⟩
abbrev main_while0b_c_38 : Ref sig .tc := ⟨.hbm, 78, rfl⟩
abbrev main_while0b_v31 : Ref sig .tc := ⟨.hbm, 79, rfl⟩
abbrev main_while0b_c_39 : Ref sig .tc := ⟨.hbm, 80, rfl⟩
abbrev main_while0b_v32 : Ref sig .tc := ⟨.hbm, 81, rfl⟩
abbrev main_while0b_v33 : Ref sig .tc := ⟨.hbm, 82, rfl⟩
abbrev main_while0b_v34 : Ref sig .tc := ⟨.hbm, 83, rfl⟩
abbrev main_while0b_v35 : Ref sig .tc := ⟨.hbm, 84, rfl⟩
abbrev main_while0b_c_40 : Ref sig .tc := ⟨.hbm, 85, rfl⟩
abbrev main_while0b_v36 : Ref sig .tc := ⟨.hbm, 86, rfl⟩
abbrev main_while0b_c_41 : Ref sig .tc := ⟨.hbm, 87, rfl⟩
abbrev main_while0b_v37 : Ref sig .tc := ⟨.hbm, 88, rfl⟩
abbrev main_while0b_v38 : Ref sig .tc := ⟨.hbm, 89, rfl⟩
abbrev main_while0b_c_42 : Ref sig .tc := ⟨.hbm, 90, rfl⟩
abbrev main_while0b_c_43 : Ref sig .tc := ⟨.hbm, 91, rfl⟩
abbrev main_while0b_v39 : Ref sig .tc := ⟨.hbm, 92, rfl⟩
abbrev main_while0b_c_44 : Ref sig .tc := ⟨.hbm, 93, rfl⟩
abbrev main_while0b_c_45 : Ref sig .tc := ⟨.hbm, 94, rfl⟩
abbrev main_while0b_v40 : Ref sig .tc := ⟨.hbm, 95, rfl⟩
abbrev main_while0b_c_46 : Ref sig .tc := ⟨.hbm, 96, rfl⟩
abbrev main_while0b_v41 : Ref sig .tc := ⟨.hbm, 97, rfl⟩
abbrev main_while0b_c_47 : Ref sig .tc := ⟨.hbm, 98, rfl⟩
abbrev main_while0b_c_48 : Ref sig .tc := ⟨.hbm, 99, rfl⟩
abbrev main_while0b_v42 : Ref sig .tc := ⟨.hbm, 100, rfl⟩
abbrev main_while0b_c_49 : Ref sig .tc := ⟨.hbm, 101, rfl⟩
abbrev main_while0b_c_50 : Ref sig .tc := ⟨.hbm, 102, rfl⟩
abbrev main_while0b_v43 : Ref sig .tc := ⟨.hbm, 103, rfl⟩
abbrev main_while0b_c_51 : Ref sig .tc := ⟨.hbm, 104, rfl⟩
abbrev main_while0b_v44 : Ref sig .tc := ⟨.hbm, 105, rfl⟩
abbrev main_while0b_v45 : Ref sig .tc := ⟨.hbm, 106, rfl⟩
abbrev main_while0b_v46 : Ref sig .tc := ⟨.hbm, 107, rfl⟩
abbrev main_while0b_v47 : Ref sig .tc := ⟨.hbm, 108, rfl⟩
abbrev main_while0b_c_52 : Ref sig .tc := ⟨.hbm, 109, rfl⟩
abbrev main_while0b_v48 : Ref sig .tc := ⟨.hbm, 110, rfl⟩
abbrev main_while0b_c_53 : Ref sig .tc := ⟨.hbm, 111, rfl⟩
abbrev main_while0b_v49 : Ref sig .tc := ⟨.hbm, 112, rfl⟩
abbrev main_while0b_v50 : Ref sig .tc := ⟨.hbm, 113, rfl⟩
abbrev main_while0b_c_54 : Ref sig .tc := ⟨.hbm, 114, rfl⟩
abbrev main_while0b_c_55 : Ref sig .tc := ⟨.hbm, 115, rfl⟩
abbrev main_while0b_v51 : Ref sig .tc := ⟨.hbm, 116, rfl⟩
abbrev main_while0b_c_56 : Ref sig .tc := ⟨.hbm, 117, rfl⟩
abbrev main_while0b_c_57 : Ref sig .tc := ⟨.hbm, 118, rfl⟩
abbrev main_while0b_v52 : Ref sig .tc := ⟨.hbm, 119, rfl⟩
abbrev main_while0b_c_58 : Ref sig .tc := ⟨.hbm, 120, rfl⟩
abbrev main_while0b_v53 : Ref sig .tc := ⟨.hbm, 121, rfl⟩
abbrev main_while0b_v54 : Ref sig .tc := ⟨.hbm, 122, rfl⟩
abbrev main_while0b_v55 : Ref sig .tc := ⟨.hbm, 123, rfl⟩
abbrev main_while0b_v56 : Ref sig .tc := ⟨.hbm, 124, rfl⟩
abbrev main_while0b_v57 : Ref sig .tc := ⟨.hbm, 125, rfl⟩
abbrev main_while0b_v58 : Ref sig .tc := ⟨.hbm, 126, rfl⟩
abbrev main_while0b_v59 : Ref sig .tc := ⟨.hbm, 127, rfl⟩
abbrev main_while0b_v60 : Ref sig .tc := ⟨.hbm, 128, rfl⟩
abbrev main_while0b_v61 : Ref sig .tc := ⟨.hbm, 129, rfl⟩
abbrev main_while0b_v62 : Ref sig .tc := ⟨.hbm, 130, rfl⟩
abbrev main_while0b_v63 : Ref sig .tc := ⟨.hbm, 131, rfl⟩
abbrev main_while0b_v64 : Ref sig .tc := ⟨.hbm, 132, rfl⟩
abbrev main_while0b_cst : Ref sig .tc := ⟨.hbm, 133, rfl⟩
abbrev main_while0b_v65 : Ref sig .tc := ⟨.hbm, 134, rfl⟩
abbrev main_while0b_v66 : Ref sig .tc := ⟨.hbm, 135, rfl⟩
abbrev main_while0b_v67 : Ref sig .tc := ⟨.hbm, 136, rfl⟩
abbrev main_while0b_v68 : Ref sig .tc := ⟨.hbm, 137, rfl⟩
abbrev main_while0b_v69 : Ref sig .tc := ⟨.hbm, 138, rfl⟩
abbrev main_while0b_v70 : Ref sig .tc := ⟨.hbm, 139, rfl⟩
abbrev main_while0b_v71 : Ref sig .tc := ⟨.hbm, 140, rfl⟩
abbrev main_while0b_v72 : Ref sig .tc := ⟨.hbm, 141, rfl⟩
abbrev main_while0b_v73 : Ref sig .tc := ⟨.hbm, 142, rfl⟩
abbrev main_while0b_v74 : Ref sig .tc := ⟨.hbm, 143, rfl⟩
abbrev main_while0b_v75 : Ref sig .tc := ⟨.hbm, 144, rfl⟩
abbrev main_while0b_v76 : Ref sig .tc := ⟨.hbm, 145, rfl⟩
abbrev main_while0b_v77 : Ref sig .tc := ⟨.hbm, 146, rfl⟩
abbrev main_while0b_v78 : Ref sig .tc := ⟨.hbm, 147, rfl⟩
abbrev main_while0b_cst_59 : Ref sig .tc := ⟨.hbm, 148, rfl⟩
abbrev main_while0b_v79 : Ref sig .tc := ⟨.hbm, 149, rfl⟩
abbrev main_while0b_v80 : Ref sig .tc := ⟨.hbm, 150, rfl⟩
abbrev main_while0b_cst_60 : Ref sig .tc := ⟨.hbm, 151, rfl⟩
abbrev main_while0b_v81 : Ref sig .tc := ⟨.hbm, 152, rfl⟩
abbrev main_while0b_v82 : Ref sig .tc := ⟨.hbm, 153, rfl⟩
abbrev main_while0b_cst_61 : Ref sig .tc := ⟨.hbm, 154, rfl⟩
abbrev main_while0b_v83 : Ref sig .tc := ⟨.hbm, 155, rfl⟩
abbrev main_while0b_cst_62 : Ref sig .tc := ⟨.hbm, 156, rfl⟩
abbrev main_while0b_v84 : Ref sig .tc := ⟨.hbm, 157, rfl⟩
abbrev main_while0b_v85 : Ref sig .tc := ⟨.hbm, 158, rfl⟩
abbrev main_while0b_v86 : Ref sig .tc := ⟨.hbm, 159, rfl⟩
abbrev main_while0b_v87 : Ref sig .tc := ⟨.hbm, 160, rfl⟩
abbrev main_while0b_v88 : Ref sig .tc := ⟨.hbm, 161, rfl⟩
abbrev main_while0b_v89 : Ref sig .tc := ⟨.hbm, 162, rfl⟩
abbrev main_while0b_cst_63 : Ref sig .tc := ⟨.hbm, 163, rfl⟩
abbrev main_while0b_v90 : Ref sig .tc := ⟨.hbm, 164, rfl⟩
abbrev main_while0b_v91 : Ref sig .tc := ⟨.hbm, 165, rfl⟩
abbrev main_while0b_v92 : Ref sig .tc := ⟨.hbm, 166, rfl⟩
abbrev main_while0b_v93 : Ref sig .tc := ⟨.hbm, 167, rfl⟩
abbrev main_while0b_v94 : Ref sig .tc := ⟨.hbm, 168, rfl⟩
abbrev main_while0b_v95 : Ref sig .tc := ⟨.hbm, 169, rfl⟩
abbrev main_while0b_cst_64 : Ref sig .tc := ⟨.hbm, 170, rfl⟩
abbrev main_while0b_v96 : Ref sig .tc := ⟨.hbm, 171, rfl⟩
abbrev main_while0b_v97 : Ref sig .tc := ⟨.hbm, 172, rfl⟩
abbrev main_while0b_v98 : Ref sig .tc := ⟨.hbm, 173, rfl⟩
abbrev main_while0b_v99 : Ref sig .tc := ⟨.hbm, 174, rfl⟩
abbrev main_while0b_cst_65 : Ref sig .tc := ⟨.hbm, 175, rfl⟩
abbrev main_while0b_v100 : Ref sig .tc := ⟨.hbm, 176, rfl⟩
abbrev main_while0b_v101 : Ref sig .tc := ⟨.hbm, 177, rfl⟩
abbrev main_while0b_cst_66 : Ref sig .tc := ⟨.hbm, 178, rfl⟩
abbrev main_while0b_v102 : Ref sig .tc := ⟨.hbm, 179, rfl⟩
abbrev main_while0b_v103 : Ref sig .tc := ⟨.hbm, 180, rfl⟩
abbrev main_while0b_cst_67 : Ref sig .tc := ⟨.hbm, 181, rfl⟩
abbrev main_while0b_v104 : Ref sig .tc := ⟨.hbm, 182, rfl⟩
abbrev main_while0b_v105 : Ref sig .tc := ⟨.hbm, 183, rfl⟩
abbrev main_while0b_v106 : Ref sig .tc := ⟨.hbm, 184, rfl⟩
abbrev main_while0b_v107 : Ref sig .tc := ⟨.hbm, 185, rfl⟩
abbrev main_while0b_v108 : Ref sig .tc := ⟨.hbm, 186, rfl⟩
abbrev main_while0b_v109 : Ref sig .tc := ⟨.hbm, 187, rfl⟩
abbrev main_while0b_v110 : Ref sig .tc := ⟨.hbm, 188, rfl⟩
abbrev main_while0b_v111 : Ref sig .tc := ⟨.hbm, 189, rfl⟩
abbrev main_while0b_v112 : Ref sig .tc := ⟨.hbm, 190, rfl⟩
abbrev main_while0b_cst_68 : Ref sig .tc := ⟨.hbm, 191, rfl⟩
abbrev main_while0b_v113 : Ref sig .tc := ⟨.hbm, 192, rfl⟩
abbrev main_while0b_v114 : Ref sig .tc := ⟨.hbm, 193, rfl⟩
abbrev main_while0b_cst_69 : Ref sig .tc := ⟨.hbm, 194, rfl⟩
abbrev main_while0b_v115 : Ref sig .tc := ⟨.hbm, 195, rfl⟩
abbrev main_while0b_v116 : Ref sig .tc := ⟨.hbm, 196, rfl⟩
abbrev main_while0b_cst_70 : Ref sig .tc := ⟨.hbm, 197, rfl⟩
abbrev main_while0b_v117 : Ref sig .tc := ⟨.hbm, 198, rfl⟩
abbrev main_while0b_v118 : Ref sig .tc := ⟨.hbm, 199, rfl⟩
abbrev main_while0b_v119 : Ref sig .tc := ⟨.hbm, 200, rfl⟩
abbrev main_while0b_v120 : Ref sig .tc := ⟨.hbm, 201, rfl⟩
abbrev main_while0b_v121 : Ref sig .tc := ⟨.hbm, 202, rfl⟩
abbrev main_while0b_cst_71 : Ref sig .tc := ⟨.hbm, 203, rfl⟩
abbrev main_while0b_v122 : Ref sig .tc := ⟨.hbm, 204, rfl⟩
abbrev main_while0b_v123 : Ref sig .tc := ⟨.hbm, 205, rfl⟩
abbrev main_while0b_cst_72 : Ref sig .tc := ⟨.hbm, 206, rfl⟩
abbrev main_while0b_v124 : Ref sig .tc := ⟨.hbm, 207, rfl⟩
abbrev main_while0b_v125 : Ref sig .tc := ⟨.hbm, 208, rfl⟩
abbrev main_while0b_cst_73 : Ref sig .tc := ⟨.hbm, 209, rfl⟩
abbrev main_while0b_v126 : Ref sig .tc := ⟨.hbm, 210, rfl⟩
abbrev main_while0b_v127 : Ref sig .tc := ⟨.hbm, 211, rfl⟩
abbrev main_while0b_v128 : Ref sig .tc := ⟨.hbm, 212, rfl⟩
abbrev main_while0b_v129 : Ref sig .tc := ⟨.hbm, 213, rfl⟩
abbrev main_while0b_v130 : Ref sig .tc := ⟨.hbm, 214, rfl⟩
abbrev main_while0b_v131 : Ref sig .tc := ⟨.hbm, 215, rfl⟩
abbrev main_while0b_v132 : Ref sig .tc := ⟨.hbm, 216, rfl⟩
abbrev main_while0b_v133 : Ref sig .tc := ⟨.hbm, 217, rfl⟩
abbrev main_while0b_v134 : Ref sig .tc := ⟨.hbm, 218, rfl⟩
abbrev main_while0b_cst_74 : Ref sig .tc := ⟨.hbm, 219, rfl⟩
abbrev main_while0b_v135 : Ref sig .tc := ⟨.hbm, 220, rfl⟩
abbrev main_while0b_v136 : Ref sig .tc := ⟨.hbm, 221, rfl⟩
abbrev main_while0b_cst_75 : Ref sig .tc := ⟨.hbm, 222, rfl⟩
abbrev main_while0b_v137 : Ref sig .tc := ⟨.hbm, 223, rfl⟩
abbrev main_while0b_v138 : Ref sig .tc := ⟨.hbm, 224, rfl⟩
abbrev main_while0b_cst_76 : Ref sig .tc := ⟨.hbm, 225, rfl⟩
abbrev main_while0b_v139 : Ref sig .tc := ⟨.hbm, 226, rfl⟩
abbrev main_while0b_v140 : Ref sig .tc := ⟨.hbm, 227, rfl⟩
abbrev main_while0b_v141 : Ref sig .tc := ⟨.hbm, 228, rfl⟩
abbrev main_while0b_v142 : Ref sig .tc := ⟨.hbm, 229, rfl⟩
abbrev main_while0b_v143 : Ref sig .tc := ⟨.hbm, 230, rfl⟩
abbrev main_while0b_v144 : Ref sig .tc := ⟨.hbm, 231, rfl⟩
abbrev main_while0b_v145 : Ref sig .tc := ⟨.hbm, 232, rfl⟩
abbrev main_while0b_v146 : Ref sig .tc := ⟨.hbm, 233, rfl⟩
abbrev main_while0b_v147 : Ref sig .tc := ⟨.hbm, 234, rfl⟩
abbrev main_while0b_v148 : Ref sig .tc := ⟨.hbm, 235, rfl⟩
abbrev main_while0b_v149 : Ref sig .tc := ⟨.hbm, 236, rfl⟩
abbrev main_while0b_v150 : Ref sig .tc := ⟨.hbm, 237, rfl⟩
abbrev main_while0b_v151 : Ref sig .tc := ⟨.hbm, 238, rfl⟩
abbrev main_while0b_v152 : Ref sig .tc := ⟨.hbm, 239, rfl⟩
abbrev main_while0b_v153 : Ref sig .tc := ⟨.hbm, 240, rfl⟩
abbrev main_while0b_c_77 : Ref sig .tc := ⟨.hbm, 241, rfl⟩
abbrev main_while0b_v154 : Ref sig .tc := ⟨.hbm, 242, rfl⟩
abbrev main_while0b_v155 : Ref sig .tc := ⟨.hbm, 243, rfl⟩
abbrev main_while0b_v156 : Ref sig .tc := ⟨.hbm, 244, rfl⟩
abbrev main_while0b_v157 : Ref sig .tc := ⟨.hbm, 245, rfl⟩
abbrev main_while0b_v158 : Ref sig .tc := ⟨.hbm, 246, rfl⟩
abbrev main_while0b_v159 : Ref sig .tc := ⟨.hbm, 247, rfl⟩
abbrev main_while0b_v160 : Ref sig .tc := ⟨.hbm, 248, rfl⟩
abbrev main_while0b_v161 : Ref sig .tc := ⟨.hbm, 249, rfl⟩
abbrev main_while0b_cst_78 : Ref sig .tc := ⟨.hbm, 250, rfl⟩
abbrev main_while0b_v162 : Ref sig .tc := ⟨.hbm, 251, rfl⟩
abbrev main_while0b_cst_79 : Ref sig .tc := ⟨.hbm, 252, rfl⟩
abbrev main_while0b_v163 : Ref sig .tc := ⟨.hbm, 253, rfl⟩
abbrev main_while0b_cst_80 : Ref sig .tc := ⟨.hbm, 254, rfl⟩
abbrev main_while0b_v164 : Ref sig .tc := ⟨.hbm, 255, rfl⟩
abbrev main_while0b_v165 : Ref sig .tc := ⟨.hbm, 256, rfl⟩
abbrev main_while0b_v166 : Ref sig .tc := ⟨.hbm, 257, rfl⟩
abbrev main_while0b_v167 : Ref sig .tc := ⟨.hbm, 258, rfl⟩
abbrev main_while0b_c_81 : Ref sig .tc := ⟨.hbm, 259, rfl⟩
abbrev main_while0b_v168 : Ref sig .tc := ⟨.hbm, 260, rfl⟩

abbrev nD : Nat := 1
abbrev τ : Topo := Topo.v7x

variable {F : FTy → Type} [FloatOps F]

abbrev main_while0_count : Scf.Loop 32 := ⟨0#32, 4#32, 1#32⟩
-- ==== Proof.BodyIdeal.lean ====
/- What one grid point of the fused kernel computes from its eight input blocks, written as a chain of four equal
   steps. The kernel never rewrites the image: it carries a factor `F` and a row `K` such that the image after the
   blocks so far is `F * x + K`, and every step computes the next `F` and `K` from the pooled images. -/
module

public import proofs.«01_k».proof.Proof.Gen.KernelIdeal.Skeleton
public import proofs.«01_k».proof.Proof.Gen.KernelIdeal.Frame

@[expose] public section

set_option maxRecDepth 16384

noncomputable section

namespace Cert.KernelIdeal.Body

open Idealize.ShloMosaic Idealize.ShloMosaic.TcCoe
open Cert.KernelIdeal.Gen

variable {F : FTy → Type} [FloatOps F] [Named F]

/-! ## The scaling factor of a block -/

/-- The sum of the squares of the entries of `c * cᵀ - 1`. -/
def sqDev (c : Vec F S1x1x48x48 .f32) : F .f32 :=
  k0_pay59 c

/-- One minus the mean of the four deviations. -/
def factor (c0 c1 c2 c3 : Vec F S1x1x48x48 .f32) : F .f32 :=
  Scalar.subf (Scalar.ofBits .f32 0x3F800000#32)
    (Scalar.divf (Scalar.addf (Scalar.addf (Scalar.addf (sqDev c0) (sqDev c1)) (sqDev c2)) (sqDev c3))
      (Scalar.ofBits .f32 0x46100000#32))

/-- The weights of block `i`, group `g`, as the body loads them. -/
def cwAt (i g : ℕ) (h : ∀ a, (![i, g, 0, 0] : Fin 4 → ℕ) a + S1x1x48x48.size a ≤ S4x4x48x48.size a)
    (x3 : Vec F S4x4x48x48 .f32) : Vec F S1x1x48x48 .f32 :=
  View.ld x3 (Rect.unit (s := S4x4x48x48) ![i, g, 0, 0] S1x1x48x48.size h)

def factor0 (x3 : Vec F S4x4x48x48 .f32) : F .f32 :=
  factor (cwAt 0 0 inb_S4x4x48x48_S1x1x48x48_0_0_0_0 x3) (cwAt 0 1 inb_S4x4x48x48_S1x1x48x48_0_1_0_0 x3)
    (cwAt 0 2 inb_S4x4x48x48_S1x1x48x48_0_2_0_0 x3) (cwAt 0 3 inb_S4x4x48x48_S1x1x48x48_0_3_0_0 x3)
def factor1 (x3 : Vec F S4x4x48x48 .f32) : F .f32 :=
  factor (cwAt 1 0 inb_S4x4x48x48_S1x1x48x48_1_0_0_0 x3) (cwAt 1 1 inb_S4x4x48x48_S1x1x48x48_1_1_0_0 x3)
    (cwAt 1 2 inb_S4x4x48x48_S1x1x48x48_1_2_0_0 x3) (cwAt 1 3 inb_S4x4x48x48_S1x1x48x48_1_3_0_0 x3)
def factor2 (x3 : Vec F S4x4x48x48 .f32) : F .f32 :=
  factor (cwAt 2 0 inb_S4x4x48x48_S1x1x48x48_2_0_0_0 x3) (cwAt 2 1 inb_S4x4x48x48_S1x1x48x48_2_1_0_0 x3)
    (cwAt 2 2 inb_S4x4x48x48_S1x1x48x48_2_2_0_0 x3) (cwAt 2 3 inb_S4x4x48x48_S1x1x48x48_2_3_0_0 x3)
def factor3 (x3 : Vec F S4x4x48x48 .f32) : F .f32 :=
  factor (cwAt 3 0 inb_S4x4x48x48_S1x1x48x48_3_0_0_0 x3) (cwAt 3 1 inb_S4x4x48x48_S1x1x48x48_3_1_0_0 x3)
    (cwAt 3 2 inb_S4x4x48x48_S1x1x48x48_3_2_0_0 x3) (cwAt 3 3 inb_S4x4x48x48_S1x1x48x48_3_3_0_0 x3)

/-- Whether no partial product of the factors is negative, as the kernel's branch tests it. -/
def allPos (f0 f1 f2 : F .f32) : BitVec 1 :=
  Scalar.cmpi .ne (Scalar.extui (Scalar.andi (Scalar.andi (Scalar.cmpf .oge f0 (Scalar.ofBits .f32 0x00000000#32))
    (Scalar.cmpf .oge (Scalar.mulf f0 f1) (Scalar.ofBits .f32 0x00000000#32)))
    (Scalar.cmpf .oge (Scalar.mulf (Scalar.mulf f0 f1) f2) (Scalar.ofBits .f32 0x00000000#32))) : BitVec 32) 0#32

/-! ## One step -/

/-- The channel mixing of the row `K`, plus its bias, for all blocks and all three parts at once. -/
def mixRow (wt : FVec F S192x768 .f32) (K : FVec F S1x192 .f32) (cb : Vec F S1x1x768 .f32) : FVec F S1x768 .f32 :=
  addf (matmul dot_S1x192_S192x768_S1x768_1_0_0_1_n_n none K wt (constant S1x768 .f32 0x00000000#32))
    (shapeCast S1x768 cb shapeCasts_S1x1x768_S1x768)

/-- The columns `o, …, o + 63` of a pooled image. -/
def cols (o : ℕ) (h : S1568x768.Slices ![0, o] S1568x64) (p : FVec F S1568x768 .f32) : FVec F S1568x64 .f32 :=
  extractStridedSlice S1568x64 ![0, o] p h

/-- The columns of the maximum image where the factor is not negative, of the minimum image where it is. -/
def colsSel (o : ℕ) (h : S1568x768.Slices ![0, o] S1568x64) (f : F .f32) (p n : FVec F S1568x768 .f32) :
    FVec F S1568x64 .f32 :=
  Scalar.select (Scalar.cmpf .oge f (Scalar.ofBits .f32 0x00000000#32)) (cols o h p) (cols o h n)

/-- Pooled columns of the image `f * x + K`, from the pooled columns `p` of `x`. -/
def pooled (o : ℕ) (h : S1x768.Slices ![0, o] S1x64) (f : F .f32) (p : FVec F S1568x64 .f32)
    (mix : FVec F S1x768 .f32) : FVec F S1568x64 .f32 :=
  addf (mulf (broadcast S1568x64 f) p)
    (broadcastTo S1568x64 (extractStridedSlice S1x64 ![0, o] mix h) broadcasts_S1x64_S1568x64)

/-- The attention scores of the four heads at every pooled position; the mask at the positions between. -/
def scores (mask : F .f32) (sm : FVec F S4x64 .f32) (ev : IVec S1x1568 1) (xu xw : FVec F S1568x64 .f32)
    (a : Vec F S1x1x64 .f32) : FVec F S4x1568 .f32 :=
  select (broadcastTo S4x1568 (shapeCast S1x1568 ev shapeCasts_S1x1568_S1x1568) broadcasts_S1x1568_S4x1568)
    (matmul dot_S4x64_S1568x64_S4x1568_1_1_0_0_n_n none sm
      (mulf (mulf xu xw) (broadcastTo S1568x64 (shapeCast S1x64 a shapeCasts_S1x1x64_S1x64) broadcasts_S1x64_S1568x64))
      (constant S4x1568 .f32 0x00000000#32))
    (broadcast S4x1568 mask)

/-- The exponentials of a row less its maximum. -/
def expRow (s : FVec F S4x1568 .f32) : FVec F S4x1568 .f32 :=
  exp (subf s (broadcastTo S4x1568
    (shapeCast S4x1 (multiReduction .maximumf [1] S4 s 0xFF800000#32 reduces_S4x1568_S4 (.inl rfl) rfl) shapeCasts_S4_S4x1)
    broadcasts_S4x1_S4x1568))

/-- A row over its sum. -/
def normRow (e : FVec F S4x1568 .f32) : FVec F S4x1568 .f32 :=
  divf e (broadcastTo S4x1568
    (shapeCast S4x1 (multiReduction .add [1] S4 e 0x00000000#32 reduces_S4x1568_S4 (.inl rfl) rfl) shapeCasts_S4_S4x1)
    broadcasts_S4x1_S4x1568)

/-- The attention-weighted sums of the value columns, each column's under its own head. -/
def headSum (sm : FVec F S4x64 .f32) (attn : FVec F S4x1568 .f32) (xv : FVec F S1568x64 .f32) : FVec F S1x64 .f32 :=
  shapeCast S1x64
    (multiReduction .add [0] S64
      (mulf (matmul dot_S4x1568_S1568x64_S4x64_1_0_0_1_n_n none attn xv (constant S4x64 .f32 0x00000000#32)) sm)
      0x00000000#32 reduces_S4x64_S64 (.inl rfl) rfl)
    shapeCasts_S64_S1x64

/-- The next row `K`: the block's constant output, and the old row scaled. -/
def nextK (f : F .f32) (K : FVec F S1x192 .f32) (ws : FVec F S1x64 .f32) (befft : Vec F S1x64x192 .f32)
    (bb : Vec F S1x1x192 .f32) : FVec F S1x192 .f32 :=
  addf
    (addf (matmul dot_S1x64_S64x192_S1x192_1_0_0_1_n_n none ws (shapeCast S64x192 befft shapeCasts_S1x64x192_S64x192)
        (constant S1x192 .f32 0x00000000#32))
      (shapeCast S1x192 bb shapeCasts_S1x1x192_S1x192))
    (mulf (broadcast S1x192 f) K)

/-- The next row `K` from the pooled columns of the three parts. -/
def stepK (mask : F .f32) (sm : FVec F S4x64 .f32) (ev : IVec S1x1568 1) (f : F .f32) (K : FVec F S1x192 .f32)
    (xu xw xv : FVec F S1568x64 .f32) (a : Vec F S1x1x64 .f32) (befft : Vec F S1x64x192 .f32)
    (bb : Vec F S1x1x192 .f32) : FVec F S1x192 .f32 :=
  nextK f K (headSum sm (normRow (expRow (scores mask sm ev xu xw a))) xv) befft bb

/-! ## The rows of the parameter blocks -/

def cbAt (j : ℕ) (h : ∀ a, (![j, 0, 0] : Fin 3 → ℕ) a + S1x1x768.size a ≤ S4x1x768.size a)
    (x4 : Vec F S4x1x768 .f32) : Vec F S1x1x768 .f32 :=
  View.ld x4 (Rect.unit (s := S4x1x768) ![j, 0, 0] S1x1x768.size h)
def aAt (j : ℕ) (h : ∀ a, (![j, 0, 0] : Fin 3 → ℕ) a + S1x1x64.size a ≤ S4x1x64.size a)
    (x5 : Vec F S4x1x64 .f32) : Vec F S1x1x64 .f32 :=
  View.ld x5 (Rect.unit (s := S4x1x64) ![j, 0, 0] S1x1x64.size h)
def befftAt (j : ℕ) (h : ∀ a, (![j, 0, 0] : Fin 3 → ℕ) a + S1x64x192.size a ≤ S4x64x192.size a)
    (x6 : Vec F S4x64x192 .f32) : Vec F S1x64x192 .f32 :=
  View.ld x6 (Rect.unit (s := S4x64x192) ![j, 0, 0] S1x64x192.size h)
def bbAt (j : ℕ) (h : ∀ a, (![j, 0, 0] : Fin 3 → ℕ) a + S1x1x192.size a ≤ S4x1x192.size a)
    (x7 : Vec F S4x1x192 .f32) : Vec F S1x1x192 .f32 :=
  View.ld x7 (Rect.unit (s := S4x1x192) ![j, 0, 0] S1x1x192.size h)

abbrev wholeX : Rect S1x192x3136 := Rect.unit (s := S1x192x3136) ![0, 0, 0] S1x192x3136.size inb_S1x192x3136_S1x192x3136_0_0_0
abbrev wholeW : Rect S768x192 := Rect.unit (s := S768x192) ![0, 0] S768x192.size inb_S768x192_S768x192_0_0
abbrev wholeWt : Rect S192x768 := Rect.unit (s := S192x768) ![0, 0] S192x768.size inb_S192x768_S192x768_0_0

/-! ## The two ways through the four blocks -/

section Chain

variable (mask : F .f32) (sm : FVec F S4x64 .f32) (ev : IVec S1x1568 1) (wt : FVec F S192x768 .f32)
  (p n : FVec F S1568x768 .f32) (x3 : Vec F S4x4x48x48 .f32) (x4 : Vec F S4x1x768 .f32) (x5 : Vec F S4x1x64 .f32)
  (x6 : Vec F S4x64x192 .f32) (x7 : Vec F S4x1x192 .f32)

/-- The row `K` before the first block. -/
def startK : FVec F S1x192 .f32 := broadcast S1x192 (Scalar.ofBits .f32 0x00000000#32)

/-- The factor before each of the blocks: one, then the running products. -/
def prod0 : F .f32 := Scalar.ofBits .f32 0x3F800000#32
def prod1 : F .f32 := Scalar.mulf prod0 (factor0 x3)
def prod2 : F .f32 := Scalar.mulf (prod1 x3) (factor1 x3)
def prod3 : F .f32 := Scalar.mulf (prod2 x3) (factor2 x3)
def prod4 : F .f32 := Scalar.mulf (prod3 x3) (factor3 x3)

/-- The rows where no factor is negative: the maximum image alone is read. -/
def fast1 : FVec F S1x192 .f32 :=
  let mix := mixRow wt startK (cbAt 0 inb_S4x1x768_S1x1x768_0_0_0 x4)
  stepK mask sm ev (factor0 x3) startK
    (pooled 0 slices_S1x768_o0_0_S1x64 prod0 (cols 0 slices_S1568x768_o0_0_S1568x64 p) mix)
    (pooled 256 slices_S1x768_o0_256_S1x64 prod0 (cols 256 slices_S1568x768_o0_256_S1568x64 p) mix)
    (pooled 512 slices_S1x768_o0_512_S1x64 prod0 (cols 512 slices_S1568x768_o0_512_S1568x64 p) mix)
    (aAt 0 inb_S4x1x64_S1x1x64_0_0_0 x5) (befftAt 0 inb_S4x64x192_S1x64x192_0_0_0 x6) (bbAt 0 inb_S4x1x192_S1x1x192_0_0_0 x7)
def fast2 : FVec F S1x192 .f32 :=
  let K := fast1 mask sm ev wt p x3 x4 x5 x6 x7
  let mix := mixRow wt K (cbAt 1 inb_S4x1x768_S1x1x768_1_0_0 x4)
  stepK mask sm ev (factor1 x3) K
    (pooled 64 slices_S1x768_o0_64_S1x64 (prod1 x3) (cols 64 slices_S1568x768_o0_64_S1568x64 p) mix)
    (pooled 320 slices_S1x768_o0_320_S1x64 (prod1 x3) (cols 320 slices_S1568x768_o0_320_S1568x64 p) mix)
    (pooled 576 slices_S1x768_o0_576_S1x64 (prod1 x3) (cols 576 slices_S1568x768_o0_576_S1568x64 p) mix)
    (aAt 1 inb_S4x1x64_S1x1x64_1_0_0 x5) (befftAt 1 inb_S4x64x192_S1x64x192_1_0_0 x6) (bbAt 1 inb_S4x1x192_S1x1x192_1_0_0 x7)
def fast3 : FVec F S1x192 .f32 :=
  let K := fast2 mask sm ev wt p x3 x4 x5 x6 x7
  let mix := mixRow wt K (cbAt 2 inb_S4x1x768_S1x1x768_2_0_0 x4)
  stepK mask sm ev (factor2 x3) K
    (pooled 128 slices_S1x768_o0_128_S1x64 (prod2 x3) (cols 128 slices_S1568x768_o0_128_S1568x64 p) mix)
    (pooled 384 slices_S1x768_o0_384_S1x64 (prod2 x3) (cols 384 slices_S1568x768_o0_384_S1568x64 p) mix)
    (pooled 640 slices_S1x768_o0_640_S1x64 (prod2 x3) (cols 640 slices_S1568x768_o0_640_S1568x64 p) mix)
    (aAt 2 inb_S4x1x64_S1x1x64_2_0_0 x5) (befftAt 2 inb_S4x64x192_S1x64x192_2_0_0 x6) (bbAt 2 inb_S4x1x192_S1x1x192_2_0_0 x7)
def fast4 : FVec F S1x192 .f32 :=
  let K := fast3 mask sm ev wt p x3 x4 x5 x6 x7
  let mix := mixRow wt K (cbAt 3 inb_S4x1x768_S1x1x768_3_0_0 x4)
  stepK mask sm ev (factor3 x3) K
    (pooled 192 slices_S1x768_o0_192_S1x64 (prod3 x3) (cols 192 slices_S1568x768_o0_192_S1568x64 p) mix)
    (pooled 448 slices_S1x768_o0_448_S1x64 (prod3 x3) (cols 448 slices_S1568x768_o0_448_S1568x64 p) mix)
    (pooled 704 slices_S1x768_o0_704_S1x64 (prod3 x3) (cols 704 slices_S1568x768_o0_704_S1568x64 p) mix)
    (aAt 3 inb_S4x1x64_S1x1x64_3_0_0 x5) (befftAt 3 inb_S4x64x192_S1x64x192_3_0_0 x6) (bbAt 3 inb_S4x1x192_S1x1x192_3_0_0 x7)

/-- The rows where a factor may be negative: the minimum image stands in where it is. -/
def any1 : FVec F S1x192 .f32 :=
  let mix := mixRow wt startK (cbAt 0 inb_S4x1x768_S1x1x768_0_0_0 x4)
  stepK mask sm ev (factor0 x3) startK
    (pooled 0 slices_S1x768_o0_0_S1x64 prod0 (colsSel 0 slices_S1568x768_o0_0_S1568x64 prod0 p n) mix)
    (pooled 256 slices_S1x768_o0_256_S1x64 prod0 (colsSel 256 slices_S1568x768_o0_256_S1568x64 prod0 p n) mix)
    (pooled 512 slices_S1x768_o0_512_S1x64 prod0 (colsSel 512 slices_S1568x768_o0_512_S1568x64 prod0 p n) mix)
    (aAt 0 inb_S4x1x64_S1x1x64_0_0_0 x5) (befftAt 0 inb_S4x64x192_S1x64x192_0_0_0 x6) (bbAt 0 inb_S4x1x192_S1x1x192_0_0_0 x7)
def any2 : FVec F S1x192 .f32 :=
  let K := any1 mask sm ev wt p n x3 x4 x5 x6 x7
  let mix := mixRow wt K (cbAt 1 inb_S4x1x768_S1x1x768_1_0_0 x4)
  stepK mask sm ev (factor1 x3) K
    (pooled 64 slices_S1x768_o0_64_S1x64 (prod1 x3) (colsSel 64 slices_S1568x768_o0_64_S1568x64 (prod1 x3) p n) mix)
    (pooled 320 slices_S1x768_o0_320_S1x64 (prod1 x3) (colsSel 320 slices_S1568x768_o0_320_S1568x64 (prod1 x3) p n) mix)
    (pooled 576 slices_S1x768_o0_576_S1x64 (prod1 x3) (colsSel 576 slices_S1568x768_o0_576_S1568x64 (prod1 x3) p n) mix)
    (aAt 1 inb_S4x1x64_S1x1x64_1_0_0 x5) (befftAt 1 inb_S4x64x192_S1x64x192_1_0_0 x6) (bbAt 1 inb_S4x1x192_S1x1x192_1_0_0 x7)
def any3 : FVec F S1x192 .f32 :=
  let K := any2 mask sm ev wt p n x3 x4 x5 x6 x7
  let mix := mixRow wt K (cbAt 2 inb_S4x1x768_S1x1x768_2_0_0 x4)
  stepK mask sm ev (factor2 x3) K
    (pooled 128 slices_S1x768_o0_128_S1x64 (prod2 x3) (colsSel 128 slices_S1568x768_o0_128_S1568x64 (prod2 x3) p n) mix)
    (pooled 384 slices_S1x768_o0_384_S1x64 (prod2 x3) (colsSel 384 slices_S1568x768_o0_384_S1568x64 (prod2 x3) p n) mix)
    (pooled 640 slices_S1x768_o0_640_S1x64 (prod2 x3) (colsSel 640 slices_S1568x768_o0_640_S1568x64 (prod2 x3) p n) mix)
    (aAt 2 inb_S4x1x64_S1x1x64_2_0_0 x5) (befftAt 2 inb_S4x64x192_S1x64x192_2_0_0 x6) (bbAt 2 inb_S4x1x192_S1x1x192_2_0_0 x7)
def any4 : FVec F S1x192 .f32 :=
  let K := any3 mask sm ev wt p n x3 x4 x5 x6 x7
  let mix := mixRow wt K (cbAt 3 inb_S4x1x768_S1x1x768_3_0_0 x4)
  stepK mask sm ev (factor3 x3) K
    (pooled 192 slices_S1x768_o0_192_S1x64 (prod3 x3) (colsSel 192 slices_S1568x768_o0_192_S1568x64 (prod3 x3) p n) mix)
    (pooled 448 slices_S1x768_o0_448_S1x64 (prod3 x3) (colsSel 448 slices_S1568x768_o0_448_S1568x64 (prod3 x3) p n) mix)
    (pooled 704 slices_S1x768_o0_704_S1x64 (prod3 x3) (colsSel 704 slices_S1568x768_o0_704_S1568x64 (prod3 x3) p n) mix)
    (aAt 3 inb_S4x1x64_S1x1x64_3_0_0 x5) (befftAt 3 inb_S4x64x192_S1x64x192_3_0_0 x6) (bbAt 3 inb_S4x1x192_S1x1x192_3_0_0 x7)

end Chain

/-! ## The block -/

/-- The mask the scores carry between the pooled positions. -/
def maskValue : F .f32 := Named.named κ "mask" 0xF149F2CA#32

/-- The indicator of a column's head. -/
def headOf : FVec F S4x64 .f32 :=
  k0_pay77 (iota .tc S4x64 32 [0] iota_S4x64_d0_w32) (iota .tc S4x64 32 [1] iota_S4x64_d1_w32)

/-- The even columns of the flattened pooled image. -/
def evens : IVec S1x1568 1 := k0_pay1 k0_pay78

/-- The transposed mixing weights as loaded. -/
def weightsT (x2 : Vec F S192x768 .f32) : FVec F S192x768 .f32 := k0_pay2 (View.ld x2 wholeWt)

/-- The row `K` after the four blocks. -/
def finalK (x0 : Vec F S1x192x3136 .f32) (x1 : Vec F S768x192 .bf16) (x2 : Vec F S192x768 .f32) (x3 : Vec F S4x4x48x48 .f32)
    (x4 : Vec F S4x1x768 .f32) (x5 : Vec F S4x1x64 .f32) (x6 : Vec F S4x64x192 .f32) (x7 : Vec F S4x1x192 .f32) :
    FVec F S1x192 .f32 :=
  if allPos (factor0 x3) (factor1 x3) (factor2 x3) = 1#1 then
    fast4 maskValue headOf evens (weightsT x2) (k0_pay58 (View.ld x0 wholeX) (View.ld x1 wholeW)) x3 x4 x5 x6 x7
  else
    any4 maskValue headOf evens (weightsT x2) (k0_pay58 (View.ld x0 wholeX) (View.ld x1 wholeW))
      (k0_pay30 (k0_pay57 (View.ld x0 wholeX) (View.ld x1 wholeW))) x3 x4 x5 x6 x7

/-- The factor after the four blocks, as a one-by-one array. -/
def finalF (x3 : Vec F S4x4x48x48 .f32) : FVec F S1x1 .f32 :=
  mulf (broadcast S1x1 (prod4 x3)) (broadcast S1x1 (Scalar.ofBits .f32 0x3F800000#32))

/-- What the body stores: `F * x + K`. -/
def outBlock (x0 : Vec F S1x192x3136 .f32) (x1 : Vec F S768x192 .bf16) (x2 : Vec F S192x768 .f32) (x3 : Vec F S4x4x48x48 .f32)
    (x4 : Vec F S4x1x768 .f32) (x5 : Vec F S4x1x64 .f32) (x6 : Vec F S4x64x192 .f32) (x7 : Vec F S4x1x192 .f32) :
    Vec F S1x192x3136 .f32 :=
  View.canon [⟨wholeX, k0_pay9 (k0_pay56 (View.ld x0 wholeX)) (finalK x0 x1 x2 x3 x4 x5 x6 x7) (finalF x3)⟩]

/-- The one store covers the block. -/
theorem outBlock_covers (v : Vec F S1x192x3136 .f32) (y : S1x192x3136.Idx) :
    ∃ pc ∈ ([⟨wholeX, v⟩] : List (View.Piece (Elt F) S1x192x3136 .f32)), y ∈ pc.1.set :=
  View.cover_of_tiled [⟨wholeX, v⟩] S1x192x3136.size (by rfl) y

end Cert.KernelIdeal.Body

end
-- ==== Proof.TripleIdeal.lean ====
/- The body's triple: run on whole staging memrefs that hold the eight input blocks, the kernel body leaves them as
   they were and stores `outBlock` of them. -/
module

public import proofs.«01_k».proof.Proof.BodyIdeal

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- The body on whole staging memrefs holding the input blocks `xW`, the output's at anything, runs to the continuation
    that holds the input blocks as they were and the output's at `outBlock` of them. -/
theorem body_triple (c : Dev nD) (E : Set ℕ) (i : grid0.Coords)
    (arg1 : Memref sig .tc .vmem S1x192x3136 .f32) (harg1 : arg1.IsWhole)
    (arg2 : Memref sig .tc .vmem S768x192 .bf16) (harg2 : arg2.IsWhole)
    (arg3 : Memref sig .tc .vmem S192x768 .f32) (harg3 : arg3.IsWhole)
    (arg4 : Memref sig .tc .vmem S4x4x48x48 .f32) (harg4 : arg4.IsWhole)
    (arg5 : Memref sig .tc .vmem S4x1x768 .f32) (harg5 : arg5.IsWhole)
    (arg6 : Memref sig .tc .vmem S4x1x64 .f32) (harg6 : arg6.IsWhole)
    (arg7 : Memref sig .tc .vmem S4x64x192 .f32) (harg7 : arg7.IsWhole)
    (arg8 : Memref sig .tc .vmem S4x1x192 .f32) (harg8 : arg8.IsWhole)
    (arg9 : Memref sig .tc .vmem S1x192x3136 .f32) (harg9 : arg9.IsWhole)
    (x0 : Vec F S1x192x3136 .f32) (x1 : Vec F S768x192 .bf16) (x2 : Vec F S192x768 .f32) (x3 : Vec F S4x4x48x48 .f32) (x4 : Vec F S4x1x768 .f32) (x5 : Vec F S4x1x64 .f32) (x6 : Vec F S4x64x192 .f32) (x7 : Vec F S4x1x192 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (outBlock x0 x1 x2 x3 x4 x5 x6 x7)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9) K := by
  simp only [cc0__fused_kernel_eq_skeleton]; unfold cc0__fused_kernel_skel
  simp only [k0_part19_eq_skeleton, k0_part18_eq_skeleton, k0_part17_eq_skeleton, k0_part16_eq_skeleton, k0_part15_eq_skeleton, k0_part14_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  beta_reduce
  split
  next hc =>
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    iexists _; isplitr
    swap; · iexact H8
    ipureintro
    refine (View.read_writes_eq_canon _ _ _ (outBlock_covers _)).trans ?_
    rw [outBlock, finalK, if_pos (show allPos (factor0 (View.read (Elt F) arg4.view f3)) (factor1 (View.read (Elt F) arg4.view f3))
      (factor2 (View.read (Elt F) arg4.view f3)) = 1#1 from hc)]
    rfl
  next hc =>
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    iexists _; isplitr
    swap; · iexact H8
    ipureintro
    refine (View.read_writes_eq_canon _ _ _ (outBlock_covers _)).trans ?_
    rw [outBlock, finalK, if_neg (show ¬ allPos (factor0 (View.read (Elt F) arg4.view f3)) (factor1 (View.read (Elt F) arg4.view f3))
      (factor2 (View.read (Elt F) arg4.view f3)) = 1#1 from hc)]
    rfl

end Cert.KernelIdeal.Body

end
-- ==== Proof.LaunchedIdeal.lean ====
/- The launch: the body's triple at every grid point, the run of the whole program around its one region, and the
   frame: every execution ends, the argument arrays as they were and every semaphore counter at zero. -/
module

public import proofs.«01_k».proof.Proof.TripleIdeal
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlock (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outBlock (iblk m c 0 t) (iblk m c 1 t) (iblk m c 2 t) (iblk m c 3 t) (iblk m c 4 t) (iblk m c 5 t) (iblk m c 6 t) (iblk m c 7 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' memrefs hold their blocks (`before0_W`), so `body_triple` applies; the invariant and
    the core's `owes` pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_triple c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (body_at m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- The launch: every final state has each array of the pipeline at what the proof data say and the buffers of the later
    lines as those leave them, and every semaphore counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: the program runs, its argument arrays end unchanged, and every semaphore counter reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Body

end
-- ==== Proof.RefFrame.lean ====
/- The reference's frame: its loop runs to the end, its argument arrays end unchanged, and it has no semaphores. -/
module

public import proofs.«01_k».proof.Proof.Gen.ReferenceIdeal.StepRun
public import Idealize.ShloMosaic.Lib.Claim
public import Idealize.ShloMosaic.Lib.Quiescent

@[expose] public section

noncomputable section

namespace Cert.ReferenceIdeal.Frame

open Idealize.ShloMosaic Idealize.ShloMosaic.TcCoe Idealize.SL.Sem

variable {F : FTy → Type} [FloatOps F]

/-- Every execution of the reference ends with its argument arrays unchanged and every semaphore counter at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2, sem_eq_zero_of_no_sems (by decide) r.2⟩) (Value.run m ρ)

end Cert.ReferenceIdeal.Frame

end
-- ==== Proof.Finite.lean ====
/- The precondition: every entry of the six arguments is finite. -/
module

public import proofs.«01_k».proof.Pre_all_finite
public import Idealize.ShloMosaic.Lib.Claim
public import Idealize.ShloMosaic.Lib.ReduceAll
public import Idealize.ShloMosaic.Lib.Pointwise

@[expose] public section

set_option maxRecDepth 16384

noncomputable section

namespace Cert.Pre_all_finite

open Idealize.ShloMosaic

/-- The facts the precondition's program states about its shapes. -/
theorem factsHold : Cert.Pre_all_finite.Facts where
  bcast_S_S8x192x56x56 := by decide
  reducesTo_S8x192x56x56_S_d0_1_2_3 := by decide
  h_S_ := by decide
  bcast_S_S4x4x48x48 := by decide
  reducesTo_S4x4x48x48_S_d0_1_2_3 := by decide
  bcast_S_S4x192 := by decide
  reducesTo_S4x192_S_d0_1 := by decide
  bcast_S_S4x576 := by decide
  reducesTo_S4x576_S_d0_1 := by decide
  bcast_S_S4x192x192 := by decide
  reducesTo_S4x192x192_S_d0_1_2 := by decide

/-- Below infinity in absolute value is real. -/
theorem real_of_abs_lt {v : EReal} (h : max v (-v) < ⊤) : v = (v.toReal : EReal) := by
  refine (EReal.coe_toReal ?_ ?_).symm <;> rintro rfl <;> simp at h

/-- The literal of infinity is the top of the extended reals. -/
theorem top_bits : Ideal.ofBits .f32 0x7F800000#32 = (⊤ : EReal) := by
  simp [Ideal.ofBits, Ideal.ieee]

/-- An array whose entries are all below infinity in absolute value holds reals. -/
theorem real_of_all {s : Shape} {axes : List (Fin s.rank)} (a : FVec Ideal s .f32) (hb : S_.BroadcastsInDim s (![] : Fin 0 → Fin s.rank))
    (hr : s.ReducesTo axes S_) (hu : 0 < S_.numel) (i : S_.Idx)
    (e : Host.reduce IntOp.andi (cmpf .olt (Host.absf a) (broadcastInDim s ![] hb (constant S_ .f32 0x7F800000#32)))
      (constantI S_ 1 1#1) hr hu i = 1#1) (j : s.Idx) : a j = ((a j).toReal : EReal) := by
  haveI : Subsingleton S_.Idx := ⟨fun p q => funext fun k => k.elim0⟩
  have h := Host.reduce_andi_all _ _ hr hu i e j
  have h' : BitVec.ofBool (decide (max (a j) (-(a j)) < Ideal.ofBits .f32 0x7F800000#32)) = 1#1 := h
  rw [top_bits] at h'
  refine real_of_abs_lt ?_
  by_contra hn
  rw [decide_eq_false hn] at h'
  exact absurd h' (by decide)

/-- Both of two words are 1 where their conjunction is. -/
theorem both_one {x y : BitVec 1} (h : x &&& y = 1#1) : x = 1#1 ∧ y = 1#1 := by
  revert x y; decide +kernel

attribute [local instance] factsHold in
/-- Where the precondition holds, the six arguments hold reals. -/
theorem reals (a0 : FVec Ideal S8x192x56x56 .f32) (a1 : FVec Ideal S4x4x48x48 .f32) (a2 : FVec Ideal S4x192 .f32)
    (a3 : FVec Ideal S4x576 .f32) (a4 : FVec Ideal S4x192x192 .f32) (a5 : FVec Ideal S4x192 .f32)
    (h : fn (F := Ideal) a0 a1 a2 a3 a4 a5 = fun _ => 1#1) :
    (∀ j, a0 j = ((a0 j).toReal : EReal)) ∧ (∀ j, a1 j = ((a1 j).toReal : EReal)) ∧ (∀ j, a2 j = ((a2 j).toReal : EReal))
      ∧ (∀ j, a3 j = ((a3 j).toReal : EReal)) ∧ (∀ j, a4 j = ((a4 j).toReal : EReal)) ∧ ∀ j, a5 j = ((a5 j).toReal : EReal) := by
  have e := congrFun h (fun k => k.elim0)
  obtain ⟨e, e5⟩ := both_one e
  obtain ⟨e, e4⟩ := both_one e
  obtain ⟨e, e3⟩ := both_one e
  obtain ⟨e, e2⟩ := both_one e
  obtain ⟨e0, e1⟩ := both_one e
  exact ⟨real_of_all _ _ _ _ _ e0, real_of_all _ _ _ _ _ e1, real_of_all _ _ _ _ _ e2, real_of_all _ _ _ _ _ e3,
    real_of_all _ _ _ _ _ e4, real_of_all _ _ _ _ _ e5⟩

end Cert.Pre_all_finite

end
-- ==== Proof.RealBlock.lean ====
/- One attention block over the real numbers, in the two forms the two programs compute, and the equation between them.
   The reference mixes the channels of an image, pools it, weights the pooled positions by a softmax and adds the
   constant that comes out to the scaled image. The kernel keeps the image as `F * x + K`, pools the mixed `x` once and
   works on the pooled values; it also sums the three neighbouring products a channel feeds before anything else. -/
module

public import Mathlib.Analysis.SpecialFunctions.Exp
public import Mathlib.Algebra.BigOperators.Fin
public import Mathlib.Algebra.BigOperators.Field

@[expose] public section

noncomputable section

namespace Cert.RealBlock

/-! ## Channels -/

/-- Channel `48 * g + i`: channel `i` of group `g`. -/
def chan (g : Fin 4) (i : Fin 48) : Fin 192 := ⟨48 * g + i, by omega⟩
/-- The group of a channel, -/
def grp (c : Fin 192) : Fin 4 := ⟨c / 48, by omega⟩
/-- and its place in the group. -/
def pos (c : Fin 192) : Fin 48 := ⟨c % 48, by omega⟩
/-- Channel `3 * m + r`: the `r`-th of the three that pooled column `m` feeds. -/
def tri (m : Fin 64) (r : Fin 3) : Fin 192 := ⟨3 * m + r, by omega⟩
/-- Column `m` of part `p` (query, key, value) among the channels. -/
def part (p : Fin 3) (m : Fin 64) : Fin 192 := ⟨64 * p + m, by omega⟩
/-- Channel `c` of part `p` among the three parts' weights. -/
def qkv (p : Fin 3) (c : Fin 192) : Fin 576 := ⟨192 * p + c, by omega⟩
/-- The pooled channel that weight `k` multiplies. -/
def src (k : Fin 576) : Fin 192 := ⟨k / 3, by omega⟩
/-- The head of a pooled column. -/
def head (m : Fin 64) : Fin 4 := ⟨m / 16, by omega⟩

theorem src_qkv_tri (p : Fin 3) (m : Fin 64) (r : Fin 3) : src (qkv p (tri m r)) = part p m := by
  apply Fin.ext; simp only [src, qkv, tri, part]; omega

theorem grp_chan (g : Fin 4) (i : Fin 48) : grp (chan g i) = g := by
  apply Fin.ext; simp only [grp, chan]; omega

theorem grp_tri (m : Fin 64) (r : Fin 3) : grp (tri m r) = head m := by
  apply Fin.ext; simp only [grp, tri, head]; omega

/-- A sum over the channels is a sum over the columns and the three channels each feeds. -/
theorem sum_tri (f : Fin 192 → ℝ) : ∑ c, f c = ∑ m, ∑ r, f (tri m r) := by
  rw [← Fintype.sum_prod_type']
  refine (Fintype.sum_equiv (finProdFinEquiv (m := 64) (n := 3)) _ _ fun a => ?_).symm
  exact congrArg f (Fin.ext (by simp [tri, finProdFinEquiv]; omega))

/-- A sum over the channels is a sum over the groups and the channels of each. -/
theorem sum_chan (f : Fin 192 → ℝ) : ∑ c, f c = ∑ g, ∑ i, f (chan g i) := by
  rw [← Fintype.sum_prod_type']
  refine (Fintype.sum_equiv (finProdFinEquiv (m := 4) (n := 48)) _ _ fun a => ?_).symm
  exact congrArg f (Fin.ext (by simp [chan, finProdFinEquiv]; omega))

/-- A sum over the channels of one group is a sum over all channels with the others left out. -/
theorem sum_grp (f : Fin 192 → ℝ) (h : Fin 4) : ∑ i, f (chan h i) = ∑ c, if grp c = h then f c else 0 := by
  rw [sum_chan]
  simp only [grp_chan]
  rw [Finset.sum_eq_single h (fun g _ hg => by simp [hg]) (by simp)]
  simp

/-- A sum over the channels of a head is a sum over the head's columns and the three channels each feeds. -/
theorem sum_head (f : Fin 192 → ℝ) (h : Fin 4) :
    ∑ i, f (chan h i) = ∑ m, if head m = h then ∑ r, f (tri m r) else 0 := by
  rw [sum_grp, sum_tri]
  refine Finset.sum_congr rfl fun m _ => ?_
  simp only [grp_tri]
  split <;> simp

/-! ## Mixing -/

/-- The mixing of the channels of each group. -/
def mix (w : Fin 4 → Fin 48 → Fin 48 → ℝ) (X : Fin 192 → ℝ) (c : Fin 192) : ℝ :=
  ∑ i, w (grp c) (pos c) i * X (chan (grp c) i)

/-- The entry of the block-diagonal matrix of the mixing. -/
def diag (w : Fin 4 → Fin 48 → Fin 48 → ℝ) (o c : Fin 192) : ℝ :=
  w (grp o) (pos o) (pos c) * (if grp o = grp c then 1 else 0)

/-- Mixing is the product with the block-diagonal matrix. -/
theorem mix_eq_diag (w : Fin 4 → Fin 48 → Fin 48 → ℝ) (X : Fin 192 → ℝ) (o : Fin 192) :
    ∑ c, X c * diag w o c = mix w X o := by
  have hp : ∀ g i, pos (chan g i) = i := fun g i => Fin.ext (by simp only [pos, chan]; omega)
  rw [sum_chan, mix, Finset.sum_eq_single (grp o)]
  · refine Finset.sum_congr rfl fun i _ => ?_
    simp only [diag, grp_chan, hp, if_true]
    ring
  · intro g _ hg
    refine Finset.sum_eq_zero fun i _ => ?_
    simp [diag, grp_chan, Ne.symm hg]
  · simp

/-- Mixing is linear. -/
theorem mix_linear (w : Fin 4 → Fin 48 → Fin 48 → ℝ) (F : ℝ) (X K : Fin 192 → ℝ) (c : Fin 192) :
    mix w (fun c' => F * X c' + K c') c = F * mix w X c + mix w K c := by
  simp only [mix, Finset.mul_sum, ← Finset.sum_add_distrib]
  exact Finset.sum_congr rfl fun i _ => by ring

/-! ## Pooling -/

/-- The largest of the four values of the window at pooled position `s`. -/
def winMax (Y : Fin 56 → Fin 56 → ℝ) (s : Fin 784) : ℝ :=
  max (max (Y ⟨2 * (s / 28), by omega⟩ ⟨2 * (s % 28), by omega⟩) (Y ⟨2 * (s / 28) + 1, by omega⟩ ⟨2 * (s % 28), by omega⟩))
    (max (Y ⟨2 * (s / 28), by omega⟩ ⟨2 * (s % 28) + 1, by omega⟩)
      (Y ⟨2 * (s / 28) + 1, by omega⟩ ⟨2 * (s % 28) + 1, by omega⟩))

/-- The smallest of the four values of the window at pooled position `s`. -/
def winMin (Y : Fin 56 → Fin 56 → ℝ) (s : Fin 784) : ℝ :=
  min (min (Y ⟨2 * (s / 28), by omega⟩ ⟨2 * (s % 28), by omega⟩) (Y ⟨2 * (s / 28) + 1, by omega⟩ ⟨2 * (s % 28), by omega⟩))
    (min (Y ⟨2 * (s / 28), by omega⟩ ⟨2 * (s % 28) + 1, by omega⟩)
      (Y ⟨2 * (s / 28) + 1, by omega⟩ ⟨2 * (s % 28) + 1, by omega⟩))

/-- The largest of scaled and shifted values is the scaled and shifted largest, or smallest where the scale is
    negative. -/
theorem winMax_affine (F k : ℝ) (Y : Fin 56 → Fin 56 → ℝ) (s : Fin 784) :
    winMax (fun y x => F * Y y x + k) s = F * (if 0 ≤ F then winMax Y s else winMin Y s) + k := by
  simp only [winMax, winMin]
  split
  · next h => simp only [max_add_add_right, mul_max_of_nonneg _ _ h]
  · next h =>
    have h' : F ≤ 0 := le_of_not_ge h
    have hm : ∀ a b : ℝ, F * min a b = max (F * a) (F * b) := fun a b => by
      rcases le_total a b with hab | hab
      · rw [min_eq_left hab, max_eq_left (mul_le_mul_of_nonpos_left hab h')]
      · rw [min_eq_right hab, max_eq_right (mul_le_mul_of_nonpos_left hab h')]
    simp only [max_add_add_right, hm]

/-! ## The two forms of a block -/

/-- The weight of position `s` among `784`. -/
def softmax (f : Fin 784 → ℝ) (s : Fin 784) : ℝ := Real.exp (f s) / ∑ t, Real.exp (f t)

/-- Taking the same number off every score changes no weight. -/
theorem softmax_shift (f : Fin 784 → ℝ) (M : ℝ) (s : Fin 784) :
    Real.exp (f s - M) / ∑ t, Real.exp (f t - M) = softmax f s := by
  simp only [softmax, Real.exp_sub, ← Finset.sum_div]
  rw [div_div_div_cancel_right₀ (Real.exp_pos M).ne']

/-- The exponentials of a row do not add up to zero. -/
theorem sum_exp_ne_zero (f : Fin 784 → ℝ) : ∑ t, Real.exp (f t) ≠ 0 :=
  (Finset.sum_pos (fun t _ => Real.exp_pos _) Finset.univ_nonempty).ne'

section Reference

variable (k : ℝ) (q : Fin 576 → ℝ) (bw : Fin 192 → Fin 192 → ℝ) (bb : Fin 192 → ℝ) (P : Fin 192 → Fin 784 → ℝ)

/-- The score of head `h` at position `t`: its `48` products of a query and a key, added up, over `k`. -/
def score (h : Fin 4) (t : Fin 784) : ℝ :=
  (∑ d, (q (qkv 0 (chan h d)) * P (src (qkv 0 (chan h d))) t) * (q (qkv 1 (chan h d)) * P (src (qkv 1 (chan h d))) t)) / k

/-- Channel `c` of the attention's output. -/
def headOut (c : Fin 192) : ℝ :=
  ∑ t, softmax (score k q P (grp c)) t * (q (qkv 2 c) * P (src (qkv 2 c)) t)

/-- Channel `o` of what the block adds to the scaled image. -/
def blockConst (o : Fin 192) : ℝ := (∑ c, bw o c * headOut k q P c) + bb o

/-- The pooled channels of the mixed image. -/
def pooledMix (w : Fin 4 → Fin 48 → Fin 48 → ℝ) (b : Fin 192 → ℝ) (X : Fin 192 → Fin 56 → Fin 56 → ℝ) (c : Fin 192)
    (s : Fin 784) : ℝ :=
  winMax (fun y x => mix w (fun c' => X c' y x) c + b c) s

end Reference

section Kernel

variable (xu xw xv : Fin 64 → Fin 784 → ℝ) (a : Fin 64 → ℝ) (be : Fin 64 → Fin 192 → ℝ) (bb : Fin 192 → ℝ)

/-- The score of head `h` at position `t` from the pooled columns and their joint weights. -/
def colScore (h : Fin 4) (t : Fin 784) : ℝ :=
  ∑ m, (if head m = h then 1 else 0) * (xu m t * xw m t * a m)

/-- The weighted sum of value column `m`, under its own head. -/
def colSum (m : Fin 64) : ℝ :=
  ∑ h, (∑ t, softmax (colScore xu xw a h) t * xv m t) * (if head m = h then 1 else 0)

/-- Channel `o` of what the block adds, from the pooled columns. -/
def colConst (o : Fin 192) : ℝ := (∑ m, colSum xu xw xv a m * be m o) + bb o

end Kernel

/-- The joint weight of a column's three products. -/
def jointW (k : ℝ) (q : Fin 576 → ℝ) (m : Fin 64) : ℝ := (∑ r, q (qkv 0 (tri m r)) * q (qkv 1 (tri m r))) / k
/-- The joint weight of a value column in channel `o`. -/
def jointV (q : Fin 576 → ℝ) (bw : Fin 192 → Fin 192 → ℝ) (m : Fin 64) (o : Fin 192) : ℝ :=
  ∑ r, bw o (tri m r) * q (qkv 2 (tri m r))

/-- The scores agree. -/
theorem score_eq (k : ℝ) (q : Fin 576 → ℝ) (P : Fin 192 → Fin 784 → ℝ) (h : Fin 4) (t : Fin 784) :
    score k q P h t = colScore (fun m => P (part 0 m)) (fun m => P (part 1 m)) (jointW k q) h t := by
  rw [score, sum_head fun c => (q (qkv 0 c) * P (src (qkv 0 c)) t) * (q (qkv 1 c) * P (src (qkv 1 c)) t), colScore,
    Finset.sum_div]
  refine Finset.sum_congr rfl fun m _ => ?_
  simp only [src_qkv_tri, jointW]
  split
  · rw [one_mul, mul_div_assoc', Finset.mul_sum]
    congr 1
    exact Finset.sum_congr rfl fun r _ => by ring
  · simp

/-- What the two forms add to the scaled image agrees. -/
theorem const_eq (k : ℝ) (q : Fin 576 → ℝ) (bw : Fin 192 → Fin 192 → ℝ) (bb : Fin 192 → ℝ) (P : Fin 192 → Fin 784 → ℝ)
    (o : Fin 192) :
    blockConst k q bw bb P o = colConst (fun m => P (part 0 m)) (fun m => P (part 1 m)) (fun m => P (part 2 m))
      (jointW k q) (jointV q bw) bb o := by
  rw [blockConst, colConst, sum_tri]
  congr 1
  refine Finset.sum_congr rfl fun m _ => ?_
  have hs : score k q P = colScore (fun m => P (part 0 m)) (fun m => P (part 1 m)) (jointW k q) :=
    funext fun h => funext fun t => score_eq k q P h t
  have hc : colSum (fun m => P (part 0 m)) (fun m => P (part 1 m)) (fun m => P (part 2 m)) (jointW k q) m
      = ∑ t, softmax (score k q P (head m)) t * P (part 2 m) t := by
    rw [colSum, Finset.sum_eq_single (head m) (fun h _ hh => by simp [Ne.symm hh]) (by simp), hs]
    simp
  rw [hc, jointV, Finset.mul_sum]
  refine Finset.sum_congr rfl fun r _ => ?_
  rw [headOut, Finset.mul_sum, Finset.sum_mul]
  refine Finset.sum_congr rfl fun t _ => ?_
  rw [grp_tri, src_qkv_tri]
  ring

/-- Pooled columns of the mixing of `F * x + K`, from the pooled mixing of `x`. -/
theorem pooledMix_affine (w : Fin 4 → Fin 48 → Fin 48 → ℝ) (b : Fin 192 → ℝ) (F : ℝ) (X : Fin 192 → Fin 56 → Fin 56 → ℝ)
    (K : Fin 192 → ℝ) (c : Fin 192) (s : Fin 784) :
    pooledMix w b (fun c' y x => F * X c' y x + K c') c s
      = F * (if 0 ≤ F then winMax (fun y x => mix w (fun c' => X c' y x) c) s
          else winMin (fun y x => mix w (fun c' => X c' y x) c) s) + (mix w K c + b c) := by
  rw [pooledMix, ← winMax_affine]
  congr 1
  funext y x
  rw [mix_linear, add_assoc]

/-! ## A block as a step on images, and as a step on rows -/

/-- The real parameters of one block. -/
structure Layer where
  cw : Fin 4 → Fin 48 → Fin 48 → ℝ
  cb : Fin 192 → ℝ
  q : Fin 576 → ℝ
  bw : Fin 192 → Fin 192 → ℝ
  bb : Fin 192 → ℝ

/-- The sum of the squares of the entries of `w * wᵀ - 1`, over one group. -/
def dev (w : Fin 48 → Fin 48 → ℝ) : ℝ :=
  ∑ a, ∑ b, ((∑ i, w a i * w b i) - if a = b then 1 else 0) * ((∑ i, w a i * w b i) - if a = b then 1 else 0)

/-- The factor the block scales the image by. -/
def scale (w : Fin 4 → Fin 48 → Fin 48 → ℝ) : ℝ := 1 - (∑ g, dev (w g)) / 9216

/-- The block on an image. -/
def nextImg (k : ℝ) (L : Layer) (X : Fin 192 → Fin 56 → Fin 56 → ℝ) : Fin 192 → Fin 56 → Fin 56 → ℝ :=
  fun o y x => blockConst k L.q L.bw L.bb (pooledMix L.cw L.cb X) o + scale L.cw * X o y x

/-- Part `p` of the pooled columns of the mixed image `F * X + K`, from the pooled mixing of `X`. -/
def columns (L : Layer) (X : Fin 192 → Fin 56 → Fin 56 → ℝ) (F : ℝ) (K : Fin 192 → ℝ) (p : Fin 3) (m : Fin 64)
    (s : Fin 784) : ℝ :=
  F * (if 0 ≤ F then winMax (fun y x => mix L.cw (fun c' => X c' y x) (part p m)) s
    else winMin (fun y x => mix L.cw (fun c' => X c' y x) (part p m)) s) + (mix L.cw K (part p m) + L.cb (part p m))

/-- The block on the row `K` of an image `F * X + K`. -/
def nextRow (k : ℝ) (L : Layer) (X : Fin 192 → Fin 56 → Fin 56 → ℝ) (F : ℝ) (K : Fin 192 → ℝ) (o : Fin 192) : ℝ :=
  colConst (columns L X F K 0) (columns L X F K 1) (columns L X F K 2) (jointW k L.q) (jointV L.q L.bw) L.bb o
    + scale L.cw * K o

/-- The block takes the image `F * X + K` to the image of the next factor and the next row. -/
theorem nextImg_affine (k : ℝ) (L : Layer) (X : Fin 192 → Fin 56 → Fin 56 → ℝ) (F : ℝ) (K : Fin 192 → ℝ) :
    nextImg k L (fun c y x => F * X c y x + K c) = fun o y x => (F * scale L.cw) * X o y x + nextRow k L X F K o := by
  funext o y x
  have h : ∀ p m, pooledMix L.cw L.cb (fun c y x => F * X c y x + K c) (part p m) = columns L X F K p m :=
    fun p m => funext fun s => pooledMix_affine L.cw L.cb F X K (part p m) s
  rw [nextImg, const_eq]
  simp only [h]
  rw [nextRow]
  ring

/-! ## The four blocks -/

section Chain

variable (k : ℝ) (L : Fin 4 → Layer) (X : Fin 192 → Fin 56 → Fin 56 → ℝ)

/-- The image after the four blocks. -/
def lastImg : Fin 192 → Fin 56 → Fin 56 → ℝ := nextImg k (L 3) (nextImg k (L 2) (nextImg k (L 1) (nextImg k (L 0) X)))

/-- The factor after each block, -/
def fac1 : ℝ := 1 * scale (L 0).cw
def fac2 : ℝ := fac1 L * scale (L 1).cw
def fac3 : ℝ := fac2 L * scale (L 2).cw
def fac4 : ℝ := fac3 L * scale (L 3).cw

/-- and the row. -/
def row1 : Fin 192 → ℝ := nextRow k (L 0) X 1 fun _ => 0
def row2 : Fin 192 → ℝ := nextRow k (L 1) X (fac1 L) (row1 k L X)
def row3 : Fin 192 → ℝ := nextRow k (L 2) X (fac2 L) (row2 k L X)
def row4 : Fin 192 → ℝ := nextRow k (L 3) X (fac3 L) (row3 k L X)

/-- The image after the four blocks is the last factor times the first image, plus the last row. -/
theorem lastImg_eq (o : Fin 192) (y x : Fin 56) : lastImg k L X o y x = fac4 L * X o y x + row4 k L X o := by
  have h0 : X = fun c y x => 1 * X c y x + (fun _ => (0 : ℝ)) c := by funext c y x; simp
  rw [lastImg]
  conv_lhs => rw [h0]
  rw [nextImg_affine]
  have e1 := nextImg_affine k (L 1) X (fac1 L) (row1 k L X)
  have e2 := nextImg_affine k (L 2) X (fac2 L) (row2 k L X)
  have e3 := nextImg_affine k (L 3) X (fac3 L) (row3 k L X)
  exact congrFun (congrFun (congrFun
    ((congrArg (nextImg k (L 3)) ((congrArg (nextImg k (L 2)) e1).trans e2)).trans e3) o) y) x

end Chain

/-! ## The rows of the stacked mixing matrix -/

/-- The block whose mixing row `n` of the stacked matrix holds. -/
def blk (n : Fin 768) : Fin 4 := ⟨n % 256 / 64, by omega⟩
/-- The channel of row `n`. -/
def chanOf (n : Fin 768) : Fin 192 := part ⟨n / 256, by omega⟩ ⟨n % 64, by omega⟩

/-- The stacked matrix: row `n` is row `chanOf n` of the block-diagonal matrix of block `blk n`. -/
def stacked (L : Fin 4 → Layer) (n : Fin 768) (c : Fin 192) : ℝ := diag (L (blk n)).cw (chanOf n) c

/-- The product with the stacked matrix is the mixing of the row's block, at the row's channel. -/
theorem stacked_mul (L : Fin 4 → Layer) (K : Fin 192 → ℝ) (n : Fin 768) :
    ∑ c, K c * stacked L n c = mix (L (blk n)).cw K (chanOf n) :=
  mix_eq_diag _ _ _

end Cert.RealBlock

end
-- ==== Proof.Coe.lean ====
/- Real numbers among the extended reals: sums, quotients, largest and smallest values of reals are reals, and so are the
   weights of a softmax over a row that holds some. -/
module

public import Idealize.ShloMosaic.PureOps.Ideal
public import Idealize.ShloMosaic.Lib.Pointwise
public import proofs.«01_k».proof.Proof.RealBlock

@[expose] public section

noncomputable section

namespace Cert.Coe

open Idealize.ShloMosaic

/-- A sum of reals, among the extended reals. -/
theorem coe_sum {ι : Type*} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- The larger of two reals. -/
theorem coe_max (a b : ℝ) : ((max a b : ℝ) : EReal) = max (a : EReal) b := EReal.coe_strictMono.monotone.map_max
/-- The smaller of two reals. -/
theorem coe_min (a b : ℝ) : ((min a b : ℝ) : EReal) = min (a : EReal) b := EReal.coe_strictMono.monotone.map_min

/-- A quotient of reals by a real that is not zero. -/
theorem div_real (a b : ℝ) (h : b ≠ 0) : Ideal.div (a : EReal) (b : EReal) = ((a / b : ℝ) : EReal) := by
  rw [Ideal.div_coe h, ← EReal.coe_mul, mul_one_div]

/-- A choice between two reals. -/
theorem coe_ite (c : Prop) [Decidable c] (a b : ℝ) : ((if c then a else b : ℝ) : EReal) = if c then (a : EReal) else b := by
  split <;> rfl

/-- The largest of a row of reals and `⊥`s, one real at least, is a real. -/
theorem fold_max_real {ι : Type*} [Fintype ι] (f : ι → EReal) (ht : ∀ i, f i ≠ ⊤) (i : ι) (hi : f i ≠ ⊥) :
    ∃ M : ℝ, Finset.univ.fold max ⊥ f = (M : EReal) := by
  have h1 : Finset.univ.fold max ⊥ f ≠ ⊤ :=
    ((Finset.fold_max_lt (b := ⊥) (f := f) (s := Finset.univ) ⊤).2
      ⟨bot_lt_top, fun j _ => lt_top_iff_ne_top.2 (ht j)⟩).ne
  have h2 : Finset.univ.fold max ⊥ f ≠ ⊥ :=
    (lt_of_lt_of_le (bot_lt_iff_ne_bot.2 hi)
      ((Finset.le_fold_max (b := ⊥) (f := f) (s := Finset.univ) (f i)).2 (.inr ⟨i, Finset.mem_univ i, le_rfl⟩))).ne'
  exact ⟨_, (EReal.coe_toReal h1 h2).symm⟩

/-- A sum over the even ones of `1568` places is a sum over `784`. -/
theorem sum_even {M : Type*} [AddCommMonoid M] (f : Fin 784 → M) :
    (∑ l : Fin 1568, if (l : ℕ) % 2 = 0 then f ⟨l / 2, by omega⟩ else 0) = ∑ s, f s := by
  rw [← Equiv.sum_comp (finProdFinEquiv (m := 784) (n := 2)), Fintype.sum_prod_type]
  refine Finset.sum_congr rfl fun s _ => ?_
  rw [Fin.sum_univ_two]
  have e0 : ((finProdFinEquiv (m := 784) (n := 2) (s, 0) : Fin 1568) : ℕ) = 2 * s := by simp [finProdFinEquiv]
  have e1 : ((finProdFinEquiv (m := 784) (n := 2) (s, 1) : Fin 1568) : ℕ) = 1 + 2 * s := by simp [finProdFinEquiv]
  rw [if_pos (by omega), if_neg (by omega), add_zero]
  exact congrArg f (Fin.ext (by simp only [e0]; omega))

/-- The softmax of a row of reals, its largest taken off first. -/
theorem softmax_real (f : Fin 784 → ℝ) (M : ℝ) (s : Fin 784) :
    Ideal.div (Ideal.exp ((f s : EReal) - (M : EReal))) (∑ t, Ideal.exp ((f t : EReal) - (M : EReal)))
      = (RealBlock.softmax f s : EReal) := by
  have h : ∀ t, Ideal.exp ((f t : EReal) - (M : EReal)) = ((Real.exp (f t - M) : ℝ) : EReal) := fun t => by
    rw [← EReal.coe_sub, Ideal.exp_coe]
  simp only [h]
  rw [← coe_sum, div_real _ _ (RealBlock.sum_exp_ne_zero fun t => f t - M), RealBlock.softmax_shift]

end Cert.Coe

end
-- ==== Proof.StepIdeal.lean ====
/- One step of the kernel at the ideal level: from real scale, row and pooled columns it computes the real row of the
   next step, `colConst + f * K`. -/
module

public import proofs.«01_k».proof.Proof.BodyIdeal
public import proofs.«01_k».proof.Proof.Coe

@[expose] public section

set_option maxRecDepth 16384

noncomputable section

namespace Cert.KernelIdeal.Body

open Idealize.ShloMosaic Idealize.ShloMosaic.TcCoe
open Cert.KernelIdeal.Gen Cert.RealBlock Cert.Coe

/-- The even place of pooled position `s` in a flattened row. -/
def even (s : Fin 784) : Fin 1568 := ⟨2 * s, by omega⟩
/-- The pooled position of a place. -/
def half (l : Fin 1568) : Fin 784 := ⟨l / 2, by omega⟩

theorem even_half (l : Fin 1568) (h : (l : ℕ) % 2 = 0) : even (half l) = l := Fin.ext (by simp only [even, half]; omega)

theorem neg_inf : Ideal.ofBits .f32 0xFF800000#32 = ⊥ := by simp [Ideal.ofBits, Ideal.ieee]

/-- The mixed row. -/
theorem mixRow_real (wt : FVec Ideal S192x768 .f32) (K : FVec Ideal S1x192 .f32) (cb : Vec Ideal S1x1x768 .f32)
    (w : Fin 192 → Fin 768 → ℝ) (k : Fin 192 → ℝ) (b : Fin 768 → ℝ) (hw : ∀ c n, wt (ix2 c n) = (w c n : EReal))
    (hk : ∀ c, K (ix2 0 c) = (k c : EReal)) (hb : ∀ n, cb (ix3 0 0 n) = (b n : EReal)) (n : Fin 768) :
    mixRow wt K cb (ix2 0 n) = (((∑ c, k c * w c n) + b n : ℝ) : EReal) := by
  pointwise [mixRow]
  simp only [hw, hk, hb, EReal.coe_add, coe_sum, EReal.coe_mul]

/-- Pooled columns `o, …, o + 63` of the scaled and shifted image. -/
theorem pooled_real (o : ℕ) (h : S1x768.Slices ![0, o] S1x64) (h' : S1568x768.Slices ![0, o] S1568x64) (ho : o + 64 ≤ 768)
    (f : ℝ) (p n : FVec Ideal S1568x768 .f32) (mix : FVec Ideal S1x768 .f32) (pr nr : Fin 768 → Fin 784 → ℝ)
    (b : Fin 768 → ℝ) (hp : ∀ s m, p (ix2 (even s) m) = (pr m s : EReal)) (hn : ∀ s m, n (ix2 (even s) m) = (nr m s : EReal))
    (hb : ∀ m, mix (ix2 0 m) = (b m : EReal)) (s : Fin 784) (m : Fin 64) :
    pooled o h (f : EReal) (colsSel o h' (f : EReal) p n) mix (ix2 (even s) m)
      = ((f * (if 0 ≤ f then pr ⟨o + m, by omega⟩ s else nr ⟨o + m, by omega⟩ s) + b ⟨o + m, by omega⟩ : ℝ) : EReal) := by
  have e : (0 ≤ (f : EReal)) = (0 ≤ f) := by rw [EReal.coe_nonneg]
  pointwise [pooled, colsSel, cols]
  rw [hb]
  simp only [e]
  split
  · pointwise
    rw [hp, EReal.coe_add, EReal.coe_mul]
  · pointwise
    rw [hn, EReal.coe_add, EReal.coe_mul]

/-- The scores: a real one at each pooled position, the mask between. -/
theorem scores_real (sm : FVec Ideal S4x64 .f32) (ev : IVec S1x1568 1) (xu xw : FVec Ideal S1568x64 .f32)
    (a : Vec Ideal S1x1x64 .f32) (u w : Fin 64 → Fin 784 → ℝ) (ar : Fin 64 → ℝ)
    (hsm : ∀ h m, sm (ix2 h m) = ((if head m = h then 1 else 0 : ℝ) : EReal))
    (hev : ∀ l : Fin 1568, ev (ix2 0 l) = if (l : ℕ) % 2 = 0 then 1#1 else 0#1)
    (hu : ∀ s m, xu (ix2 (even s) m) = (u m s : EReal)) (hw : ∀ s m, xw (ix2 (even s) m) = (w m s : EReal))
    (ha : ∀ m, a (ix3 0 0 m) = (ar m : EReal)) (h : Fin 4) (l : Fin 1568) :
    scores ⊥ sm ev xu xw a (ix2 h l) = if (l : ℕ) % 2 = 0 then (colScore u w ar h (half l) : EReal) else ⊥ := by
  pointwise [scores]
  rw [hev]
  split
  · next hl =>
    have eu : ∀ m, xu (ix2 l m) = (u m (half l) : EReal) := fun m => by rw [← hu, even_half l hl]
    have ew : ∀ m, xw (ix2 l m) = (w m (half l) : EReal) := fun m => by rw [← hw, even_half l hl]
    simp only [hsm, eu, ew, ha, colScore, coe_sum, EReal.coe_mul]
    rfl
  · rfl

/-- The weights: the softmax at each pooled position, nothing between. -/
theorem attn_real (s : FVec Ideal S4x1568 .f32) (r : Fin 4 → Fin 784 → ℝ)
    (hs : ∀ (h : Fin 4) (l : Fin 1568), s (ix2 h l) = if (l : ℕ) % 2 = 0 then (r h (half l) : EReal) else ⊥) (h : Fin 4) (l : Fin 1568) :
    normRow (expRow s) (ix2 h l) = if (l : ℕ) % 2 = 0 then (softmax (r h) (half l) : EReal) else 0 := by
  pointwise [normRow, expRow]
  rw [neg_inf]
  obtain ⟨M, hM⟩ := fold_max_real (fun x : Fin 1568 => s (ix2 h x))
    (fun x => by rw [hs]; split; exacts [EReal.coe_ne_top _, bot_ne_top]) 0
    (by rw [hs, if_pos (by rfl)]; exact EReal.coe_ne_bot _)
  rw [hM]
  have e : ∀ x : Fin 1568, Ideal.exp (s (ix2 h x) - (M : EReal))
      = if (x : ℕ) % 2 = 0 then (fun t => Ideal.exp ((r h t : EReal) - (M : EReal))) ⟨x / 2, by omega⟩ else 0 := fun x => by
    rw [hs]; split
    · rfl
    · rw [EReal.bot_sub, Ideal.exp_bot]
  rw [(Finset.sum_congr rfl fun x _ => e x).trans (sum_even fun t => Ideal.exp ((r h t : EReal) - (M : EReal))), e]
  split
  · exact softmax_real (r h) M (half l)
  · simp only [← EReal.coe_sub, Ideal.exp_coe, ← coe_sum]
    rw [← EReal.coe_zero, div_real _ _ (sum_exp_ne_zero fun t => r h t - M), zero_div]

/-- The weighted sums of the value columns. -/
theorem headSum_real (sm : FVec Ideal S4x64 .f32) (attn : FVec Ideal S4x1568 .f32) (xv : FVec Ideal S1568x64 .f32)
    (r : Fin 4 → Fin 784 → ℝ) (v : Fin 64 → Fin 784 → ℝ)
    (hsm : ∀ h m, sm (ix2 h m) = ((if head m = h then 1 else 0 : ℝ) : EReal))
    (hat : ∀ (h : Fin 4) (l : Fin 1568), attn (ix2 h l) = if (l : ℕ) % 2 = 0 then (r h (half l) : EReal) else 0)
    (hv : ∀ s m, xv (ix2 (even s) m) = (v m s : EReal)) (m : Fin 64) :
    headSum sm attn xv (ix2 0 m) = ((∑ h, (∑ t, r h t * v m t) * (if head m = h then 1 else 0) : ℝ) : EReal) := by
  pointwise [headSum]
  have e : ∀ h : Fin 4, (∑ l : Fin 1568, attn (ix2 h l) * xv (ix2 l m)) = ((∑ t, r h t * v m t : ℝ) : EReal) := fun h => by
    rw [coe_sum, ← sum_even]
    refine Finset.sum_congr rfl fun l _ => ?_
    rw [hat]
    split
    · next hl =>
      have : xv (ix2 l m) = (v m (half l) : EReal) := by rw [← hv, even_half l hl]
      rw [this, EReal.coe_mul]; rfl
    · rw [zero_mul]
  simp only [hsm]
  rw [coe_sum]
  refine Finset.sum_congr rfl fun h _ => ?_
  rw [e, EReal.coe_mul]

/-- The next row. -/
theorem nextK_real (f : ℝ) (K : FVec Ideal S1x192 .f32) (ws : FVec Ideal S1x64 .f32) (befft : Vec Ideal S1x64x192 .f32)
    (bb : Vec Ideal S1x1x192 .f32) (k : Fin 192 → ℝ) (z : Fin 64 → ℝ) (be : Fin 64 → Fin 192 → ℝ) (b : Fin 192 → ℝ)
    (hk : ∀ c, K (ix2 0 c) = (k c : EReal)) (hz : ∀ m, ws (ix2 0 m) = (z m : EReal))
    (hbe : ∀ m o, befft (ix3 0 m o) = (be m o : EReal)) (hb : ∀ o, bb (ix3 0 0 o) = (b o : EReal)) (o : Fin 192) :
    nextK (f : EReal) K ws befft bb (ix2 0 o) = (((∑ m, z m * be m o) + b o + f * k o : ℝ) : EReal) := by
  pointwise [nextK]
  simp only [hk, hz, hbe, hb, EReal.coe_add, coe_sum, EReal.coe_mul]

/-- A whole step. -/
theorem stepK_real (sm : FVec Ideal S4x64 .f32) (ev : IVec S1x1568 1) (f : ℝ) (K : FVec Ideal S1x192 .f32)
    (xu xw xv : FVec Ideal S1568x64 .f32) (a : Vec Ideal S1x1x64 .f32) (befft : Vec Ideal S1x64x192 .f32)
    (bb : Vec Ideal S1x1x192 .f32) (k : Fin 192 → ℝ) (u w v : Fin 64 → Fin 784 → ℝ) (ar : Fin 64 → ℝ)
    (be : Fin 64 → Fin 192 → ℝ) (b : Fin 192 → ℝ)
    (hsm : ∀ h m, sm (ix2 h m) = ((if head m = h then 1 else 0 : ℝ) : EReal))
    (hev : ∀ l : Fin 1568, ev (ix2 0 l) = if (l : ℕ) % 2 = 0 then 1#1 else 0#1)
    (hk : ∀ c, K (ix2 0 c) = (k c : EReal)) (hu : ∀ s m, xu (ix2 (even s) m) = (u m s : EReal))
    (hw : ∀ s m, xw (ix2 (even s) m) = (w m s : EReal)) (hv : ∀ s m, xv (ix2 (even s) m) = (v m s : EReal))
    (ha : ∀ m, a (ix3 0 0 m) = (ar m : EReal)) (hbe : ∀ m o, befft (ix3 0 m o) = (be m o : EReal))
    (hb : ∀ o, bb (ix3 0 0 o) = (b o : EReal)) (o : Fin 192) :
    stepK ⊥ sm ev (f : EReal) K xu xw xv a befft bb (ix2 0 o) = ((colConst u w v ar be b o + f * k o : ℝ) : EReal) :=
  nextK_real f K _ befft bb k (colSum u w v ar) be b hk
    (headSum_real sm _ xv (fun h => softmax (colScore u w ar h)) v hsm
      (attn_real _ (colScore u w ar) (scores_real sm ev xu xw a u w ar hsm hev hu hw ha)) hv) hbe hb o

end Cert.KernelIdeal.Body

end
-- ==== Proof.PartsIdeal.lean ====
/- The pieces the kernel's body prepares once, at the ideal level: the pooled mixing of the image, the factors, the
   indicators of heads and of even places, and the last scaling and shift. -/
module

public import proofs.«01_k».proof.Proof.StepIdeal

@[expose] public section

set_option maxRecDepth 16384

noncomputable section

namespace Cert.KernelIdeal.Body

open Idealize.ShloMosaic Idealize.ShloMosaic.TcCoe
open Cert.KernelIdeal.Gen Cert.RealBlock Cert.Coe

/-- A choice between one and zero by a word that tells whether `p` holds. -/
theorem select_real {c : BitVec 1} {p : Prop} [Decidable p] (h : c = if p then 1#1 else 0#1) :
    Scalar.select c (1 : EReal) 0 = ((if p then 1 else 0 : ℝ) : EReal) := by
  subst h; split <;> rfl

/-- Two numbers below `2 ^ 32` as words are equal just when the numbers are. -/
theorem ofNat_eq (a b : ℕ) (ha : a < 2 ^ 32) (hb : b < 2 ^ 32) :
    IntOp.cmpi .eq (BitVec.ofNat 32 a) (BitVec.ofNat 32 b) = if a = b then 1#1 else 0#1 := by
  have : (BitVec.ofNat 32 a = BitVec.ofNat 32 b) ↔ a = b := by
    constructor
    · intro h
      have := congrArg BitVec.toNat h
      simp only [BitVec.toNat_ofNat] at this
      omega
    · rintro rfl; rfl
  simp only [IntOp.cmpi]
  by_cases h : a = b
  · subst h; simp
  · have h' : ¬ BitVec.ofNat 32 a = BitVec.ofNat 32 b := fun e => h (this.1 e)
    rw [if_neg h, beq_eq_false_iff_ne.2 h']; rfl

/-! ## Indicators -/

theorem headOf_real (h : Fin 4) (m : Fin 64) :
    headOf (F := Ideal) (ix2 h m) = ((if head m = h then 1 else 0 : ℝ) : EReal) := by
  pointwise [headOf, k0_pay77]
  refine select_real ?_
  revert m h
  decide +kernel

theorem evens_eq (l : Fin 1568) : evens (ix2 0 l) = if (l : ℕ) % 2 = 0 then 1#1 else 0#1 := by
  pointwise [evens, k0_pay1, k0_pay78]
  revert l
  decide +kernel

/-! ## Factors -/

theorem sqDev_real (c : Vec Ideal S1x1x48x48 .f32) (w : Fin 48 → Fin 48 → ℝ)
    (hc : ∀ a b, c (ix4 0 0 a b) = (w a b : EReal)) : sqDev c = (dev w : EReal) := by
  have e : ∀ a b : Fin 48, Scalar.select (IntOp.cmpi .eq (BitVec.ofNat 32 a) (BitVec.ofNat 32 b)) (1 : EReal) 0
      = ((if a = b then 1 else 0 : ℝ) : EReal) := fun a b =>
    select_real (by rw [ofNat_eq _ _ (by omega) (by omega)]; simp only [Fin.ext_iff])
  pointwise [sqDev, k0_pay59]
  simp only [hc, e, dev, coe_sum, EReal.coe_mul, EReal.coe_sub]

theorem const_9216 : Ideal.ofBits .f32 0x46100000#32 = ((9216 : ℝ) : EReal) := by
  simp [Ideal.ofBits, Ideal.ieee, -EReal.coe_mul]; norm_num

theorem factor_real (c0 c1 c2 c3 : Vec Ideal S1x1x48x48 .f32) (w : Fin 4 → Fin 48 → Fin 48 → ℝ)
    (h0 : ∀ a b, c0 (ix4 0 0 a b) = (w 0 a b : EReal)) (h1 : ∀ a b, c1 (ix4 0 0 a b) = (w 1 a b : EReal))
    (h2 : ∀ a b, c2 (ix4 0 0 a b) = (w 2 a b : EReal)) (h3 : ∀ a b, c3 (ix4 0 0 a b) = (w 3 a b : EReal)) :
    factor c0 c1 c2 c3 = (scale w : EReal) := by
  rw [factor, sqDev_real c0 _ h0, sqDev_real c1 _ h1, sqDev_real c2 _ h2, sqDev_real c3 _ h3]
  pointwise
  rw [const_9216, ← EReal.coe_add, ← EReal.coe_add, ← EReal.coe_add, div_real _ _ (by norm_num), ← EReal.coe_one,
    ← EReal.coe_sub, scale, Fin.sum_univ_four]

/-! ## Pooling -/

section Pool

variable (x : Vec Ideal S1x192x3136 .f32) (w : Vec Ideal S768x192 .bf16) (X : Fin 192 → Fin 56 → Fin 56 → ℝ)
  (W : Fin 768 → Fin 192 → ℝ)

/-- The product of the image and the stacked matrix, rows and columns of the image apart. -/
theorem product_real (hx : ∀ c (l : Fin 3136), x (ix3 0 c l) = (X c ⟨l / 56, by omega⟩ ⟨l % 56, by omega⟩ : EReal))
    (hw : ∀ n c, w (ix2 n c) = (W n c : EReal)) (a : Fin 28) (r : Fin 112) (n : Fin 768) (y z : Fin 56)
    (hy : (y : ℕ) = 2 * a + r / 56) (hz : (z : ℕ) = r % 56) :
    k0_pay57 x w (ix3 a r n) = ((∑ c, X c y z * W n c : ℝ) : EReal) := by
  pointwise [k0_pay57, k0_pay56]
  rw [coe_sum]
  refine Finset.sum_congr rfl fun c _ => ?_
  rw [hx, hw, EReal.coe_mul]
  congr 4 <;> (dsimp only; omega)

/-- The largest product over each window, at its even place, -/
theorem pool_real (hx : ∀ c (l : Fin 3136), x (ix3 0 c l) = (X c ⟨l / 56, by omega⟩ ⟨l % 56, by omega⟩ : EReal))
    (hw : ∀ n c, w (ix2 n c) = (W n c : EReal)) (s : Fin 784) (n : Fin 768) :
    k0_pay58 x w (ix2 (even s) n) = (winMax (fun y z => ∑ c, X c y z * W n c) s : EReal) := by
  have e := product_real x w X W hx hw
  pointwise [k0_pay58]
  rw [dif_pos (by simp only [even]; omega)]
  simp only [winMax, coe_max]
  refine congrArg₂ max (congrArg₂ max (e _ _ n _ _ ?_ ?_) (e _ _ n _ _ ?_ ?_))
    (congrArg₂ max (e _ _ n _ _ ?_ ?_) (e _ _ n _ _ ?_ ?_)) <;> simp only [even] <;> omega

/-- and the smallest. -/
theorem poolMin_real (hx : ∀ c (l : Fin 3136), x (ix3 0 c l) = (X c ⟨l / 56, by omega⟩ ⟨l % 56, by omega⟩ : EReal))
    (hw : ∀ n c, w (ix2 n c) = (W n c : EReal)) (s : Fin 784) (n : Fin 768) :
    k0_pay30 (k0_pay57 x w) (ix2 (even s) n) = (winMin (fun y z => ∑ c, X c y z * W n c) s : EReal) := by
  have e := product_real x w X W hx hw
  pointwise [k0_pay30]
  rw [dif_pos (by simp only [even]; omega)]
  simp only [winMin, coe_min]
  refine congrArg₂ min (congrArg₂ min (e _ _ n _ _ ?_ ?_) (e _ _ n _ _ ?_ ?_))
    (congrArg₂ min (e _ _ n _ _ ?_ ?_) (e _ _ n _ _ ?_ ?_)) <;> simp only [even] <;> omega

end Pool

/-! ## The last scaling and shift -/

theorem last_real (x : FVec Ideal S192x3136 .f32) (K : FVec Ideal S1x192 .f32) (F : FVec Ideal S1x1 .f32) (c : Fin 192)
    (l : Fin 3136) : k0_pay9 x K F (ix3 0 c l) = F (ix2 0 0) * x (ix2 c l) + K (ix2 0 c) := by
  pointwise [k0_pay9]
  congr 1
  rw [Finset.sum_eq_single c]
  · rw [ofNat_eq _ _ (by omega) (by omega), if_pos rfl]; rfl
  · intro b _ hb
    rw [ofNat_eq _ _ (by omega) (by omega), if_neg (fun h => hb (Fin.ext h.symm))]; rfl
  · simp

end Cert.KernelIdeal.Body

end
-- ==== Proof.RowsIdeal.lean ====
/- The row the kernel's body ends with, at the ideal level: whichever branch it takes, the row after the four real
   blocks. -/
module

public import proofs.«01_k».proof.Proof.PartsIdeal
public import Idealize.ShloMosaic.PureOps.IdealRules
public import Idealize.ShloMosaic.Lib.Pipeline.ValueKit

@[expose] public section

set_option maxRecDepth 16384

noncomputable section

namespace Cert.KernelIdeal.Body

open Idealize.ShloMosaic Idealize.ShloMosaic.TcCoe
open Cert.KernelIdeal.Gen Cert.RealBlock Cert.Coe

/-! ## The branches -/

/-- Where the factor is not negative the maximum image is read. -/
theorem colsSel_pos (o : ℕ) (h : S1568x768.Slices ![0, o] S1568x64) (f : Ideal .f32) (p n : FVec Ideal S1568x768 .f32)
    (hf : (0 : EReal) ≤ f) : colsSel o h f p n = cols o h p := by
  have : Scalar.cmpf .oge f (Scalar.ofBits (F := Ideal) .f32 0x00000000#32) = 1#1 := by
    pointwise; simp [hf]
  rw [colsSel, this]; rfl

section Rows

variable (mask : Ideal .f32) (sm : FVec Ideal S4x64 .f32) (ev : IVec S1x1568 1) (wt : FVec Ideal S192x768 .f32)
  (p n : FVec Ideal S1568x768 .f32) (x3 : Vec Ideal S4x4x48x48 .f32) (x4 : Vec Ideal S4x1x768 .f32)
  (x5 : Vec Ideal S4x1x64 .f32) (x6 : Vec Ideal S4x64x192 .f32) (x7 : Vec Ideal S4x1x192 .f32)

/-- Where no partial product is negative the two branches compute the same row. -/
theorem fast_eq_any (h1 : (0 : EReal) ≤ prod1 x3) (h2 : (0 : EReal) ≤ prod2 x3) (h3 : (0 : EReal) ≤ prod3 x3) :
    fast4 mask sm ev wt p x3 x4 x5 x6 x7 = any4 mask sm ev wt p n x3 x4 x5 x6 x7 := by
  have h0 : (0 : EReal) ≤ prod0 (F := Ideal) := by
    have : prod0 (F := Ideal) = (1 : EReal) := by pointwise [prod0]
    rw [this]; exact zero_le_one
  simp only [fast4, fast3, fast2, fast1, any4, any3, any2, any1, colsSel_pos _ _ _ p n h0, colsSel_pos _ _ _ p n h1,
    colsSel_pos _ _ _ p n h2, colsSel_pos _ _ _ p n h3]

/-- The branch's test tells that no partial product is negative. -/
theorem allPos_nonneg (h : allPos (factor0 x3) (factor1 x3) (factor2 x3) = 1#1) :
    (0 : EReal) ≤ prod1 x3 ∧ (0 : EReal) ≤ prod2 x3 ∧ (0 : EReal) ≤ prod3 x3 := by
  rw [allPos] at h
  have key : ∀ a b c : BitVec 1, Scalar.cmpi .ne (Scalar.extui (Scalar.andi (Scalar.andi a b) c) : BitVec 32) 0#32 = 1#1 →
      a = 1#1 ∧ b = 1#1 ∧ c = 1#1 := by decide
  have ge : ∀ f : EReal, Scalar.cmpf (F := Ideal) (φ := .f32) .oge f (Scalar.ofBits (F := Ideal) .f32 0x00000000#32) = 1#1 →
      0 ≤ f := fun f hf => by
    pointwise at hf
    by_contra hc
    simp [hc] at hf
  have e1 : prod1 x3 = factor0 x3 := by
    show (Ideal.ofBits .f32 0x3F800000#32 : EReal) * factor0 x3 = factor0 x3
    rw [show (Ideal.ofBits .f32 0x3F800000#32 : EReal) = 1 from by simp [Ideal.ofBits, Ideal.ieee, -EReal.coe_mul]; norm_num, one_mul]
  obtain ⟨h1, h2, h3⟩ := key _ _ _ h
  rw [prod3, prod2, e1]
  exact ⟨ge _ h1, ge _ h2, ge _ h3⟩

end Rows

/-! ## The parameters of a block, as the body reads them -/

/-- The blocks the body loads are the real parameters of the four layers. -/
structure Reads (k : ℝ) (L : Fin 4 → Layer) (x3 : Vec Ideal S4x4x48x48 .f32) (x4 : Vec Ideal S4x1x768 .f32)
    (x5 : Vec Ideal S4x1x64 .f32) (x6 : Vec Ideal S4x64x192 .f32) (x7 : Vec Ideal S4x1x192 .f32) : Prop where
  cw : ∀ j g a b, x3 (ix4 j g a b) = ((L j).cw g a b : EReal)
  cb : ∀ j n, x4 (ix3 j 0 n) = ((L j).cb (chanOf n) : EReal)
  a : ∀ j m, x5 (ix3 j 0 m) = (jointW k (L j).q m : EReal)
  be : ∀ j m o, x6 (ix3 j m o) = (jointV (L j).q (L j).bw m o : EReal)
  bb : ∀ j o, x7 (ix3 j 0 o) = ((L j).bb o : EReal)

/-- One step on columns that start at `o0`, `o1`, `o2`: the row of the next block. -/
theorem step_real (k : ℝ) (L : Fin 4 → Layer) (X : Fin 192 → Fin 56 → Fin 56 → ℝ) (j : Fin 4) (o0 o1 o2 : ℕ)
    (h0 : S1x768.Slices ![0, o0] S1x64) (h0' : S1568x768.Slices ![0, o0] S1568x64)
    (h1 : S1x768.Slices ![0, o1] S1x64) (h1' : S1568x768.Slices ![0, o1] S1568x64)
    (h2 : S1x768.Slices ![0, o2] S1x64) (h2' : S1568x768.Slices ![0, o2] S1568x64)
    (ho0 : o0 = 64 * j) (ho1 : o1 = 256 + 64 * j) (ho2 : o2 = 512 + 64 * j)
    (wt : FVec Ideal S192x768 .f32) (p n : FVec Ideal S1568x768 .f32)
    (hwt : ∀ c i, wt (ix2 c i) = (stacked L i c : EReal))
    (hp : ∀ s i, p (ix2 (even s) i) = (winMax (fun y z => ∑ c, X c y z * stacked L i c) s : EReal))
    (hn : ∀ s i, n (ix2 (even s) i) = (winMin (fun y z => ∑ c, X c y z * stacked L i c) s : EReal))
    (K : FVec Ideal S1x192 .f32) (kr : Fin 192 → ℝ) (hk : ∀ c, K (ix2 0 c) = (kr c : EReal)) (F : ℝ)
    (cb : Vec Ideal S1x1x768 .f32) (a : Vec Ideal S1x1x64 .f32) (be : Vec Ideal S1x64x192 .f32) (bb : Vec Ideal S1x1x192 .f32)
    (hcb : ∀ i, cb (ix3 0 0 i) = ((L j).cb (chanOf i) : EReal)) (ha : ∀ m, a (ix3 0 0 m) = (jointW k (L j).q m : EReal))
    (hbe : ∀ m o, be (ix3 0 m o) = (jointV (L j).q (L j).bw m o : EReal)) (hbb : ∀ o, bb (ix3 0 0 o) = ((L j).bb o : EReal))
    (o : Fin 192) :
    stepK ⊥ headOf evens (scale (L j).cw : EReal) K
        (pooled o0 h0 (F : EReal) (colsSel o0 h0' (F : EReal) p n) (mixRow wt K cb))
        (pooled o1 h1 (F : EReal) (colsSel o1 h1' (F : EReal) p n) (mixRow wt K cb))
        (pooled o2 h2 (F : EReal) (colsSel o2 h2' (F : EReal) p n) (mixRow wt K cb)) a be bb (ix2 0 o)
      = (nextRow k (L j) X F kr o : EReal) := by
  have hmix := mixRow_real wt K cb (fun c i => stacked L i c) kr (fun i => (L j).cb (chanOf i)) hwt hk hcb
  have hcol : ∀ (part' : Fin 3) (q : ℕ) (h : S1x768.Slices ![0, q] S1x64) (h' : S1568x768.Slices ![0, q] S1568x64)
      (hq : q = 256 * part' + 64 * j) (s : Fin 784) (m : Fin 64),
      pooled q h (F : EReal) (colsSel q h' (F : EReal) p n) (mixRow wt K cb) (ix2 (even s) m)
        = (columns (L j) X F kr part' m s : EReal) := by
    intro part' q h h' hq s m
    have hlt : q + (m : ℕ) < 768 := by omega
    have eb : blk ⟨q + m, hlt⟩ = j := Fin.ext (by simp only [blk]; omega)
    have ec : chanOf ⟨q + m, hlt⟩ = part part' m := Fin.ext (by simp only [chanOf, part]; omega)
    rw [pooled_real q h h' (by omega) F p n (mixRow wt K cb) _ _ _ (fun s i => hp s i) (fun s i => hn s i) hmix s m]
    simp only [stacked_mul, eb, ec, columns]
  exact stepK_real headOf evens (scale (L j).cw) K _ _ _ a be bb kr _ _ _ _ _ _ headOf_real evens_eq hk
    (hcol 0 o0 h0 h0' (by simpa using ho0)) (hcol 1 o1 h1 h1' (by simpa using ho1)) (hcol 2 o2 h2 h2' (by simpa using ho2)) ha hbe hbb o

section Chain

variable (k : ℝ) (L : Fin 4 → Layer) (X : Fin 192 → Fin 56 → Fin 56 → ℝ) (wt : FVec Ideal S192x768 .f32)
  (p n : FVec Ideal S1568x768 .f32) (x3 : Vec Ideal S4x4x48x48 .f32) (x4 : Vec Ideal S4x1x768 .f32)
  (x5 : Vec Ideal S4x1x64 .f32) (x6 : Vec Ideal S4x64x192 .f32) (x7 : Vec Ideal S4x1x192 .f32)
  (R : Reads k L x3 x4 x5 x6 x7)
  (hwt : ∀ c i, wt (ix2 c i) = (stacked L i c : EReal))
  (hp : ∀ s i, p (ix2 (even s) i) = (winMax (fun y z => ∑ c, X c y z * stacked L i c) s : EReal))
  (hn : ∀ s i, n (ix2 (even s) i) = (winMin (fun y z => ∑ c, X c y z * stacked L i c) s : EReal))

include R in
/-- The factors of the four blocks. -/
theorem factors_real : factor0 x3 = (scale (L 0).cw : EReal) ∧ factor1 x3 = (scale (L 1).cw : EReal)
    ∧ factor2 x3 = (scale (L 2).cw : EReal) ∧ factor3 x3 = (scale (L 3).cw : EReal) := by
  refine ⟨factor_real _ _ _ _ _ ?_ ?_ ?_ ?_, factor_real _ _ _ _ _ ?_ ?_ ?_ ?_, factor_real _ _ _ _ _ ?_ ?_ ?_ ?_,
    factor_real _ _ _ _ _ ?_ ?_ ?_ ?_⟩ <;> (intro a b; pointwise [cwAt]; exact R.cw _ _ a b)

include R in
/-- The factor before each block, and after the last. -/
theorem prods_real : prod0 (F := Ideal) = ((1 : ℝ) : EReal) ∧ prod1 x3 = (fac1 L : EReal) ∧ prod2 x3 = (fac2 L : EReal)
    ∧ prod3 x3 = (fac3 L : EReal) ∧ prod4 x3 = (fac4 L : EReal) := by
  obtain ⟨f0, f1, f2, f3⟩ := factors_real k L x3 x4 x5 x6 x7 R
  have e0 : prod0 (F := Ideal) = ((1 : ℝ) : EReal) := by pointwise [prod0]; rfl
  have e1 : prod1 x3 = (fac1 L : EReal) := by rw [prod1, e0, f0, fac1, EReal.coe_mul]; rfl
  have e2 : prod2 x3 = (fac2 L : EReal) := by rw [prod2, e1, f1, fac2, EReal.coe_mul]; rfl
  have e3 : prod3 x3 = (fac3 L : EReal) := by rw [prod3, e2, f2, fac3, EReal.coe_mul]; rfl
  exact ⟨e0, e1, e2, e3, by rw [prod4, e3, f3, fac4, EReal.coe_mul]; rfl⟩

include R hwt hp hn in
/-- The step of block `j`, on the parameters the body loads for it. -/
theorem step_at (j : ℕ) (hj : j < 4) (o0 o1 o2 : ℕ)
    (h0 : S1x768.Slices ![0, o0] S1x64) (h0' : S1568x768.Slices ![0, o0] S1568x64)
    (h1 : S1x768.Slices ![0, o1] S1x64) (h1' : S1568x768.Slices ![0, o1] S1568x64)
    (h2 : S1x768.Slices ![0, o2] S1x64) (h2' : S1568x768.Slices ![0, o2] S1568x64)
    (ho0 : o0 = 64 * j) (ho1 : o1 = 256 + 64 * j) (ho2 : o2 = 512 + 64 * j)
    (K : FVec Ideal S1x192 .f32) (kr : Fin 192 → ℝ) (hk : ∀ c, K (ix2 0 c) = (kr c : EReal)) (F : ℝ) (hcb ha hbe hbb)
    (o : Fin 192) :
    stepK ⊥ headOf evens (scale (L ⟨j, hj⟩).cw : EReal) K
        (pooled o0 h0 (F : EReal) (colsSel o0 h0' (F : EReal) p n) (mixRow wt K (cbAt j hcb x4)))
        (pooled o1 h1 (F : EReal) (colsSel o1 h1' (F : EReal) p n) (mixRow wt K (cbAt j hcb x4)))
        (pooled o2 h2 (F : EReal) (colsSel o2 h2' (F : EReal) p n) (mixRow wt K (cbAt j hcb x4)))
        (aAt j ha x5) (befftAt j hbe x6) (bbAt j hbb x7) (ix2 0 o)
      = (nextRow k (L ⟨j, hj⟩) X F kr o : EReal) := by
  refine step_real k L X ⟨j, hj⟩ _ _ _ _ _ _ _ _ _ ho0 ho1 ho2 wt p n hwt hp hn K kr hk F _ _ _ _ ?_ ?_ ?_ ?_ o
  · intro i; pointwise [cbAt]; exact R.cb ⟨j, hj⟩ i
  · intro i; pointwise [aAt]; exact R.a ⟨j, hj⟩ i
  · intro i o; pointwise [befftAt]; exact R.be ⟨j, hj⟩ i o
  · intro i; pointwise [bbAt]; exact R.bb ⟨j, hj⟩ i

include R hwt hp hn in
/-- The row after the four blocks, by the branch that reads both images. -/
theorem any4_real (o : Fin 192) :
    any4 ⊥ headOf evens wt p n x3 x4 x5 x6 x7 (ix2 0 o) = (row4 k L X o : EReal) := by
  obtain ⟨f0, f1, f2, f3⟩ := factors_real k L x3 x4 x5 x6 x7 R
  obtain ⟨p0, p1, p2, p3, -⟩ := prods_real k L x3 x4 x5 x6 x7 R
  have step := step_at k L X wt p n x3 x4 x5 x6 x7 R hwt hp hn
  have r0 : ∀ c, startK (F := Ideal) (ix2 0 c) = ((0 : ℝ) : EReal) := fun c => by pointwise [startK]; rfl
  have r1 : ∀ o, any1 ⊥ headOf evens wt p n x3 x4 x5 x6 x7 (ix2 0 o) = (row1 k L X o : EReal) := fun o => by
    rw [any1, f0, p0]
    exact step 0 (by omega) _ _ _ _ _ _ _ _ _ rfl rfl rfl _ _ r0 1 _ _ _ _ o
  have r2 : ∀ o, any2 ⊥ headOf evens wt p n x3 x4 x5 x6 x7 (ix2 0 o) = (row2 k L X o : EReal) := fun o => by
    rw [any2, f1, p1]
    exact step 1 (by omega) _ _ _ _ _ _ _ _ _ rfl rfl rfl _ _ r1 _ _ _ _ _ o
  have r3 : ∀ o, any3 ⊥ headOf evens wt p n x3 x4 x5 x6 x7 (ix2 0 o) = (row3 k L X o : EReal) := fun o => by
    rw [any3, f2, p2]
    exact step 2 (by omega) _ _ _ _ _ _ _ _ _ rfl rfl rfl _ _ r2 _ _ _ _ _ o
  rw [any4, f3, p3]
  exact step 3 (by omega) _ _ _ _ _ _ _ _ _ rfl rfl rfl _ _ r3 _ _ _ _ _ o

/-- The loads of whole blocks, and the mask. -/
theorem maskValue_eq : maskValue (F := Ideal) = ⊥ := IdealRules.named_const.ideal_named_scalar _ _ _ _ rfl

include R in
/-- The row after the four blocks, whichever branch is taken. -/
theorem finalK_real (x0 : Vec Ideal S1x192x3136 .f32) (x1 : Vec Ideal S768x192 .bf16) (x2 : Vec Ideal S192x768 .f32)
    (hx0 : ∀ c (l : Fin 3136), x0 (ix3 0 c l) = (X c ⟨l / 56, by omega⟩ ⟨l % 56, by omega⟩ : EReal))
    (hx1 : ∀ i c, x1 (ix2 i c) = (stacked L i c : EReal)) (hx2 : ∀ c i, x2 (ix2 c i) = (stacked L i c : EReal)) (o : Fin 192) :
    finalK x0 x1 x2 x3 x4 x5 x6 x7 (ix2 0 o) = (row4 k L X o : EReal) := by
  have h2 : ∀ c i, weightsT x2 (ix2 c i) = (stacked L i c : EReal) := fun c i => by
    pointwise [weightsT, k0_pay2]; exact hx2 _ _
  have h0 : ∀ c (l : Fin 3136), (View.ld x0 wholeX : Vec Ideal S1x192x3136 .f32) (ix3 0 c l)
      = (X c ⟨l / 56, by omega⟩ ⟨l % 56, by omega⟩ : EReal) := fun c l => by pointwise; exact hx0 _ _
  have h1 : ∀ i c, (View.ld x1 wholeW : Vec Ideal S768x192 .bf16) (ix2 i c) = (stacked L i c : EReal) := fun i c => by
    pointwise; exact hx1 _ _
  have hany := any4_real k L X (weightsT x2) _ _ x3 x4 x5 x6 x7 R h2 (pool_real _ _ X (stacked L) h0 h1)
    (poolMin_real _ _ X (stacked L) h0 h1) o
  rw [finalK, maskValue_eq]
  split
  · next h =>
    obtain ⟨a, b, c⟩ := allPos_nonneg x3 h
    rw [fast_eq_any ⊥ headOf evens (weightsT x2) _ _ x3 x4 x5 x6 x7 a b c]
    exact hany
  · exact hany

include R in
/-- What the body stores: the last factor times the image, plus the last row. -/
theorem outBlock_real (x0 : Vec Ideal S1x192x3136 .f32) (x1 : Vec Ideal S768x192 .bf16) (x2 : Vec Ideal S192x768 .f32)
    (hx0 : ∀ c (l : Fin 3136), x0 (ix3 0 c l) = (X c ⟨l / 56, by omega⟩ ⟨l % 56, by omega⟩ : EReal))
    (hx1 : ∀ i c, x1 (ix2 i c) = (stacked L i c : EReal)) (hx2 : ∀ c i, x2 (ix2 c i) = (stacked L i c : EReal))
    (c : Fin 192) (l : Fin 3136) :
    outBlock x0 x1 x2 x3 x4 x5 x6 x7 (ix3 0 c l)
      = (lastImg k L X c ⟨l / 56, by omega⟩ ⟨l % 56, by omega⟩ : EReal) := by
  obtain ⟨-, -, -, -, p4⟩ := prods_real k L x3 x4 x5 x6 x7 R
  have hF : finalF x3 (ix2 0 0) = (fac4 L : EReal) := by
    pointwise [finalF]; exact p4
  have hX : k0_pay56 x0 (ix2 c l)
      = (X c ⟨l / 56, by omega⟩ ⟨l % 56, by omega⟩ : EReal) := by
    pointwise [k0_pay56]; exact hx0 _ _
  rw [outBlock]
  frame_out
  rw [last_real, hF, hX, finalK_real k L X x3 x4 x5 x6 x7 R x0 x1 x2 hx0 hx1 hx2, lastImg_eq, EReal.coe_add, EReal.coe_mul]

end Chain

end Cert.KernelIdeal.Body

end
-- ==== Proof.EntriesIdeal.lean ====
module
public import proofs.«01_k».proof.Proof.LaunchedIdeal
public import proofs.«01_k».proof.Proof.RowsIdeal
public import Idealize.ShloMosaic.Lib.Pipeline.ValueKit

/-!
What the kernel's blocks hold when the arguments are real: the image, the stacked block-diagonal weights, the tiled
biases, and the products of weights that the host operations form ahead of the launch.
-/

@[expose] public section
set_option maxRecDepth 16384
noncomputable section
namespace Cert.KernelIdeal.Body
open Idealize.ShloMosaic Idealize.ShloMosaic.TcCoe Idealize.SL.Sem
open Cert.KernelIdeal Cert.KernelIdeal.Gen Cert.RealBlock Cert.Coe

variable (m : (ℓ : Loc nD τ sig) → Buf (Elt Ideal) ℓ)

/-- The arguments on a device are the images `X` and the weights of the blocks `L`. -/
structure Args (c : Dev nD) (L : Fin 4 → Layer) (X : Fin 8 → Fin 192 → Fin 56 → Fin 56 → ℝ) : Prop where
  x : ∀ b ch y x, m (c, Proc.tc.devRef main_arg0) (ix4 b ch y x) = (X b ch y x : EReal)
  cw : ∀ j g a i, m (c, Proc.tc.devRef main_arg1) (ix4 j g a i) = ((L j).cw g a i : EReal)
  cb : ∀ j ch, m (c, Proc.tc.devRef main_arg2) (ix2 j ch) = ((L j).cb ch : EReal)
  q : ∀ j w, m (c, Proc.tc.devRef main_arg3) (ix2 j w) = ((L j).q w : EReal)
  bw : ∀ j o i, m (c, Proc.tc.devRef main_arg4) (ix3 j o i) = ((L j).bw o i : EReal)
  bb : ∀ j o, m (c, Proc.tc.devRef main_arg5) (ix2 j o) = ((L j).bb o : EReal)

/-- The divisor of the scores. -/
def rootK : ℝ := 14529495 / 2097152

/-- It is not zero. -/
theorem rootK_ne : rootK ≠ 0 := by norm_num [rootK]

/-- It is the value of the literal that the programs divide by. -/
theorem rootK_bits : Ideal.ofBits .f32 0x40DDB3D7#32 = (rootK : EReal) := by
  simp [Ideal.ofBits, Ideal.ieee, rootK, -EReal.coe_mul]; norm_num

/-- One on equal numbers, zero on others. -/
theorem eye_real (a b : ℕ) (ha : a < 2 ^ 32) (hb : b < 2 ^ 32) :
    (FloatOps.uitofp (F := Ideal) .f32 (IntOp.cmpi .eq (IntOp.addi (BitVec.ofNat 32 a) 0#32) (BitVec.ofNat 32 b)) : EReal)
      = ((if a = b then 1 else 0 : ℝ) : EReal) := by
  have e : IntOp.addi (BitVec.ofNat 32 a) 0#32 = BitVec.ofNat 32 a := by simp [IntOp.addi]
  rw [e, ofNat_eq _ _ ha hb]
  split <;> simp [FloatOps.uitofp]

section Entries
variable {m} {c : Dev nD} {L : Fin 4 → Layer} {X : Fin 8 → Fin 192 → Fin 56 → Fin 56 → ℝ} (A : Args m c L X)
include A

/-- The image, its rows laid end to end. -/
theorem x_entry (b : Fin 8) (ch : Fin 192) (l : Fin 3136) :
    V m c main_v0 (ix3 b ch l) = (X b ch ⟨l / 56, by omega⟩ ⟨l % 56, by omega⟩ : EReal) := by
  have e : V m c main_v0 = StableHlo.after hostOps0 (fun b => m (c, b)) (Proc.tc.devRef main_v0) := rfl
  rw [e]
  after_results
  pointwise
  exact A.x _ _ _ _

omit A in
/-- A weight times one on the diagonal blocks and zero elsewhere. -/
theorem diag_real (b : Fin 4) (o i : Fin 192) (w : EReal) (hw : w = ((L b).cw (grp o) (pos o) (pos i) : EReal)) :
    w * (FloatOps.uitofp (F := Ideal) .f32
          (IntOp.cmpi .eq (IntOp.addi (BitVec.ofNat 32 (o / 48)) 0#32) (BitVec.ofNat 32 (i / 48))) : EReal)
      = (diag (L b).cw o i : EReal) := by
  rw [eye_real _ _ (by omega) (by omega), hw, diag, EReal.coe_mul]
  simp only [grp, Fin.ext_iff]

omit A in
/-- The row of the stack that a row of a block's part lands on. -/
theorem diag_stacked (n : Fin 768) (i : Fin 192) (b : Fin 4) (o : Fin 192) (hb : (b : ℕ) = n % 256 / 64)
    (ho : (o : ℕ) = 64 * (n / 256) + n % 64) : (diag (L b).cw o i : EReal) = (stacked L n i : EReal) := by
  have h1 : blk n = b := Fin.ext hb.symm
  have h2 : chanOf n = o := Fin.ext ho.symm
  rw [stacked, h1, h2]

/-- A row of the stacked weights. -/
theorem wall_entry (n : Fin 768) (i : Fin 192) : V m c main_v50 (ix2 n i) = (stacked L n i : EReal) := by
  have e : V m c main_v50 = StableHlo.after hostOps0 (fun b => m (c, b)) (Proc.tc.devRef main_v50) := rfl
  rw [e]
  after_results
  pointwise
  after_results_simp
  pointwise
  by_cases h1 : (n : ℕ) < 256
  · rw [dif_pos h1]
    exact (diag_real ⟨n / 64, by omega⟩ ⟨n % 64, by omega⟩ i _ (A.cw _ _ _ _)).trans
      (diag_stacked n i _ _ (by dsimp only; omega) (by dsimp only; omega))
  rw [dif_neg h1]
  by_cases h2 : (n : ℕ) - 256 < 256
  · rw [dif_pos h2]
    exact (diag_real ⟨(n - 256) / 64, by omega⟩ ⟨64 + (n - 256) % 64, by omega⟩ i _ (A.cw _ _ _ _)).trans
      (diag_stacked n i _ _ (by dsimp only; omega) (by dsimp only; omega))
  · rw [dif_neg h2]
    exact (diag_real ⟨(n - 256 - 256) / 64, by omega⟩ ⟨128 + (n - 256 - 256) % 64, by omega⟩ i _ (A.cw _ _ _ _)).trans
      (diag_stacked n i _ _ (by dsimp only; omega) (by dsimp only; omega))

/-- The transposed stack. -/
theorem wallt_entry (n : Fin 768) (i : Fin 192) : V m c main_v51 (ix2 i n) = (stacked L n i : EReal) := by
  rw [← wall_entry A]
  have e : V m c main_v50 = StableHlo.after hostOps0 (fun b => m (c, b)) (Proc.tc.devRef main_v50) := rfl
  have e' : V m c main_v51 = StableHlo.after hostOps0 (fun b => m (c, b)) (Proc.tc.devRef main_v51) := rfl
  rw [e, e']
  after_results
  pointwise

/-- The tiled biases. -/
theorem bias_entry (b : Fin 4) (n : Fin 768) : V m c main_v48 (ix3 b 0 n) = ((L b).cb (chanOf n) : EReal) := by
  have e : V m c main_v48 = StableHlo.after hostOps0 (fun b => m (c, b)) (Proc.tc.devRef main_v48) := rfl
  rw [e]
  after_results
  try dsimp only [Matrix.cons_val]
  try after_results_simp
  pointwise
  try after_results
  try dsimp only [Matrix.cons_val]
  try after_results_simp
  try pointwise
  simp only [A.cb]
  split_ifs <;> (congr 2; simp only [chanOf, part, Fin.mk.injEq]; omega)

/-- The products of query and key weights that a pooled column meets, summed and divided. -/
theorem joint_entry (b : Fin 4) (n : Fin 64) : V m c main_v27 (ix3 b 0 n) = (jointW rootK (L b).q n : EReal) := by
  have e : V m c main_v27 = StableHlo.after hostOps0 (fun b => m (c, b)) (Proc.tc.devRef main_v27) := rfl
  rw [e]
  after_results
  pointwise
  simp only [A.q, rootK_bits, ← EReal.coe_mul, ← coe_sum, div_real _ _ rootK_ne, jointW]
  refine congrArg (fun z : ℝ => ((z / rootK : ℝ) : EReal)) (Finset.sum_congr rfl fun r _ => ?_)
  congr 2 <;> (simp only [qkv, tri, Fin.mk.injEq]; omega)

/-- The products of mixing and value weights that a pooled column meets, summed. -/
theorem value_entry (b : Fin 4) (n : Fin 64) (o : Fin 192) :
    V m c main_v34 (ix3 b n o) = (jointV (L b).q (L b).bw n o : EReal) := by
  have e : V m c main_v34 = StableHlo.after hostOps0 (fun b => m (c, b)) (Proc.tc.devRef main_v34) := rfl
  rw [e]
  after_results
  pointwise
  simp only [A.q, A.bw, ← EReal.coe_mul, ← coe_sum, jointV]
  refine congrArg (fun z : ℝ => (z : EReal)) (Finset.sum_congr rfl fun r _ => ?_)
  congr 2 <;> (simp only [qkv, tri, Fin.mk.injEq]; omega)

/-- The last biases. -/
theorem shift_entry (b : Fin 4) (o : Fin 192) : V m c main_v49 (ix3 b 0 o) = ((L b).bb o : EReal) := by
  have e : V m c main_v49 = StableHlo.after hostOps0 (fun b => m (c, b)) (Proc.tc.devRef main_v49) := rfl
  rw [e]
  after_results
  pointwise
  exact A.bb _ _

end Entries
end Cert.KernelIdeal.Body
-- ==== Proof.RefWeights.lean ====
module
public import proofs.«01_k».proof.Proof.Gen.ReferenceIdeal.Step
public import proofs.«01_k».proof.Proof.EntriesIdeal
public import Idealize.ShloMosaic.Lib.Pointwise

/-!
The weights that the reference's block `j` reads off the stacked weights.
-/

@[expose] public section
set_option maxRecDepth 16384
noncomputable section
namespace Cert.ReferenceIdeal.Block
open Idealize.ShloMosaic
open Cert.ReferenceIdeal Cert.ReferenceIdeal.Gen Cert.ReferenceIdeal.Step Cert.RealBlock Cert.Coe

/-- The state of the loop is the images `Y` and the weights of the blocks `L`. -/
structure Real (s : State Ideal) (L : Fin 4 → Layer) (Y : Fin 8 → Fin 192 → Fin 56 → Fin 56 → ℝ) : Prop where
  x : ∀ b c y x, s.main_v0_7 (ix4 b c y x) = (Y b c y x : EReal)
  cw : ∀ j g a i, s.main_v0_0 (ix4 j g a i) = ((L j).cw g a i : EReal)
  cb : ∀ j c, s.main_v0_1 (ix2 j c) = ((L j).cb c : EReal)
  q : ∀ j w, s.main_v0_2 (ix2 j w) = ((L j).q w : EReal)
  bw : ∀ j o i, s.main_v0_3 (ix3 j o i) = ((L j).bw o i : EReal)
  bb : ∀ j o, s.main_v0_4 (ix2 j o) = ((L j).bb o : EReal)

section
variable {s : State Ideal} {L : Fin 4 → Layer} {Y : Fin 8 → Fin 192 → Fin 56 → Fin 56 → ℝ} (R : Real s L Y)
include R

/-- Block `j`'s mixing weights. -/
theorem cw_at (j : Fin 4) (g : Fin 4) (a i : Fin 48) : b33 j s (ix3 g a i) = ((L j).cw g a i : EReal) := by
  have e : (fun k => (((![(b7 j s), (b15 j s), (b23 j s), (b31 j s)] : Fin 4 → (⟨S_, .i32⟩ : BufTy).Contents (Elt Ideal))) k
      (Shape.Idx.first h_S_)).toInt) = ![(j : ℤ), 0, 0, 0] := by
    funext k
    fin_cases j <;> fin_cases k <;> rfl
  rw [← R.cw, b33, b32, e]
  pointwise
  fin_cases j <;> simp [Host.clampedStart]

/-- Its biases. -/
theorem cb_at (j : Fin 4) (c : Fin 192) : b49 j s (ix1 c) = ((L j).cb c : EReal) := by
  have e : (fun k => (((![(b39 j s), (b47 j s)] : Fin 2 → (⟨S_, .i32⟩ : BufTy).Contents (Elt Ideal))) k
      (Shape.Idx.first h_S_)).toInt) = ![(j : ℤ), 0] := by
    funext k
    fin_cases j <;> fin_cases k <;> rfl
  rw [← R.cb, b49, b48, e]
  pointwise
  fin_cases j <;> simp [Host.clampedStart]

/-- Its query, key and value weights. -/
theorem q_at (j : Fin 4) (w : Fin 576) : b65 j s (ix1 w) = ((L j).q w : EReal) := by
  have e : (fun k => (((![(b55 j s), (b63 j s)] : Fin 2 → (⟨S_, .i32⟩ : BufTy).Contents (Elt Ideal))) k
      (Shape.Idx.first h_S_)).toInt) = ![(j : ℤ), 0] := by
    funext k
    fin_cases j <;> fin_cases k <;> rfl
  rw [← R.q, b65, b64, e]
  pointwise
  fin_cases j <;> simp [Host.clampedStart]

/-- Its last weights. -/
theorem bw_at (j : Fin 4) (o i : Fin 192) : b89 j s (ix2 o i) = ((L j).bw o i : EReal) := by
  have e : (fun k => (((![(b71 j s), (b79 j s), (b87 j s)] : Fin 3 → (⟨S_, .i32⟩ : BufTy).Contents (Elt Ideal))) k
      (Shape.Idx.first h_S_)).toInt) = ![(j : ℤ), 0, 0] := by
    funext k
    fin_cases j <;> fin_cases k <;> rfl
  rw [← R.bw, b89, b88, e]
  pointwise
  fin_cases j <;> simp [Host.clampedStart]

/-- Its last biases. -/
theorem bb_at (j : Fin 4) (o : Fin 192) : b105 j s (ix1 o) = ((L j).bb o : EReal) := by
  have e : (fun k => (((![(b95 j s), (b103 j s)] : Fin 2 → (⟨S_, .i32⟩ : BufTy).Contents (Elt Ideal))) k
      (Shape.Idx.first h_S_)).toInt) = ![(j : ℤ), 0] := by
    funext k
    fin_cases j <;> fin_cases k <;> rfl
  rw [← R.bb, b105, b104, e]
  pointwise
  fin_cases j <;> simp [Host.clampedStart]

end
end Cert.ReferenceIdeal.Block
-- ==== Proof.RefWindow.lean ====
module
public import proofs.«01_k».proof.Proof.Gen.ReferenceIdeal.Step
public import Idealize.ShloMosaic.Lib.Pointwise

/-!
The largest of each two-by-two window of an image, as the reference's pooling takes it.
-/

@[expose] public section
set_option maxRecDepth 16384
noncomputable section
namespace Cert.ReferenceIdeal.Block
open Idealize.ShloMosaic
open Cert.ReferenceIdeal Cert.ReferenceIdeal.Gen

/-- The window's shape. -/
abbrev Win : Shape := ⟨4, ![1, 1, 2, 2]⟩

/-- The places of a window, in row-major order. -/
theorem win_place : ∀ (n : Fin Win.numel) (a : Fin 4), (Win.rowMajor.symm n a).val = (![0, 0, n / 2, n % 2] : Fin 4 → ℕ) a := by
  decide +kernel

/-- The four elements of a window, folded from the initial value. -/
theorem window {α : Type} (f : α → α → α) (x : S8x192x56x56.Idx → α) (init : S_.Idx → α) (v : α) (hv : ∀ i, init i = v)
    (b : Fin 8) (c : Fin 192) (h w : Fin 28) :
    Host.reduceWindow f ![1, 1, 2, 2] ![1, 1, 2, 2] ![0, 0, 0, 0] ![0, 0, 0, 0] x init
        reduceWindows_S8x192x56x56_S8x192x28x28_w1s1p0_0_w1s1p0_0_w2s2p0_0_w2s2p0_0 h_S_ (ix4 b c h w)
      = f (f (f (f v (x (ix4 b c ⟨2 * h, by omega⟩ ⟨2 * w, by omega⟩))) (x (ix4 b c ⟨2 * h, by omega⟩ ⟨2 * w + 1, by omega⟩)))
          (x (ix4 b c ⟨2 * h + 1, by omega⟩ ⟨2 * w, by omega⟩))) (x (ix4 b c ⟨2 * h + 1, by omega⟩ ⟨2 * w + 1, by omega⟩)) := by
  unfold Host.reduceWindow
  refine (List.foldl_ext _ (fun r (n : Fin Win.numel) => f r (x (ix4 b c
    ⟨2 * h + n / 2, by have := n.isLt; have : Win.numel = 4 := rfl; omega⟩ ⟨2 * w + n % 2, by omega⟩))) _ fun r n _ => ?_).trans ?_
  · have hn : (n : ℕ) < 4 := n.isLt
    have h0 := win_place n 0
    have h1 := win_place n 1
    have h2 := win_place n 2
    have h3 := win_place n 3
    simp only [Matrix.cons_val] at h0 h1 h2 h3
    refine congrArg (f r) ((dif_pos ?_).trans (congrArg x (funext fun a => Fin.ext ?_)))
    · intro a
      match a with
      | ⟨0, _⟩ => show 0 ≤ b.val * 1 + (Win.rowMajor.symm n 0).val ∧ b.val * 1 + (Win.rowMajor.symm n 0).val - 0 < 8; omega
      | ⟨1, _⟩ => show 0 ≤ c.val * 1 + (Win.rowMajor.symm n 1).val ∧ c.val * 1 + (Win.rowMajor.symm n 1).val - 0 < 192; omega
      | ⟨2, _⟩ => show 0 ≤ h.val * 2 + (Win.rowMajor.symm n 2).val ∧ h.val * 2 + (Win.rowMajor.symm n 2).val - 0 < 56; omega
      | ⟨3, _⟩ => show 0 ≤ w.val * 2 + (Win.rowMajor.symm n 3).val ∧ w.val * 2 + (Win.rowMajor.symm n 3).val - 0 < 56; omega
    · match a with
      | ⟨0, _⟩ => show b.val * 1 + (Win.rowMajor.symm n 0).val - 0 = b.val; omega
      | ⟨1, _⟩ => show c.val * 1 + (Win.rowMajor.symm n 1).val - 0 = c.val; omega
      | ⟨2, _⟩ => show h.val * 2 + (Win.rowMajor.symm n 2).val - 0 = 2 * h.val + n / 2; omega
      | ⟨3, _⟩ => show w.val * 2 + (Win.rowMajor.symm n 3).val - 0 = 2 * w.val + n % 2; omega
  · rw [hv]
    rfl

end Cert.ReferenceIdeal.Block
-- ==== Proof.RefPool.lean ====
module
public import proofs.«01_k».proof.Proof.RefWeights
public import proofs.«01_k».proof.Proof.RefWindow

/-!
The reference's block up to the heads' outputs, on real images and weights.
-/

@[expose] public section
set_option maxRecDepth 16384
noncomputable section
namespace Cert.ReferenceIdeal.Block
open Idealize.ShloMosaic
open Cert.ReferenceIdeal Cert.ReferenceIdeal.Gen Cert.ReferenceIdeal.Step Cert.RealBlock Cert.Coe
open Cert.KernelIdeal.Body (rootK rootK_ne rootK_bits neg_inf)

variable {s : State Ideal} {L : Fin 4 → Layer} {Y : Fin 8 → Fin 192 → Fin 56 → Fin 56 → ℝ} (R : Real s L Y)
include R

/-- The mixed image. -/
theorem mixed (j : Fin 4) (b : Fin 8) (c : Fin 192) (y x : Fin 56) :
    b114 j s (ix4 b c y x) = ((mix (L j).cw (fun c' => Y b c' y x) c + (L j).cb c : ℝ) : EReal) := by
  pointwise [b114, b113, b112, b111, b110, b109, b108, b107, b106]
  simp only [R.x, cw_at R, cb_at R]
  rw [mix, EReal.coe_add, coe_sum]
  refine congrArg (· + _) (Finset.sum_congr rfl fun i _ => ?_)
  rw [EReal.coe_mul, mul_comm]
  refine congrArg₂ (fun u v : ℝ => (u : EReal) * v) rfl (congrArg (fun c' => Y b c' y x) (Fin.ext ?_))
  show c.val / 48 * 48 + i.val = 48 * (c.val / 48) + i.val
  omega

/-- The pooled image. -/
theorem pooled (j : Fin 4) (b : Fin 8) (c : Fin 192) (h w : Fin 28) :
    b117 j s (ix4 b c h w) = (pooledMix (L j).cw (L j).cb (Y b) c ⟨28 * h + w, by omega⟩ : EReal) := by
  have e : b117 j s (ix4 b c h w) = _ := window max (b114 j s) (b116 j s) ⊥ (fun i => neg_inf) b c h w
  rw [e, mixed R, mixed R, mixed R, mixed R, max_eq_right bot_le, pooledMix, winMax, coe_max, coe_max, coe_max]
  have h1 : (28 * (h : ℕ) + w) / 28 = h := by omega
  have h2 : (28 * (h : ℕ) + w) % 28 = w := by omega
  simp only [h1, h2]
  rw [max_assoc, max_max_max_comm]

/-- A query, key or value of the block: the channel's weight times the pooled channel it reads. -/
def part3 (L : Layer) (X : Fin 192 → Fin 56 → Fin 56 → ℝ) (w : Fin 576) (t : Fin 784) : ℝ :=
  L.q w * pooledMix L.cw L.cb X (src w) t

/-- The reference forms them all at once. -/
theorem weighted (j : Fin 4) (b : Fin 8) (w : Fin 576) (y x : Fin 28) :
    b122 j s (ix4 b w y x) = (part3 (L j) (Y b) w ⟨28 * y + x, by omega⟩ : EReal) := by
  pointwise [b122, b121, b120, b119, b118]
  simp only [q_at R, pooled R]
  rw [part3, EReal.coe_mul]
  rfl

omit R in
/-- A place of a pooled image, from its row and column. -/
theorem place (t : Fin 784) (h : 28 * (t.val / 28) + t.val % 28 < 784) : (⟨28 * (t.val / 28) + t.val % 28, h⟩ : Fin 784) = t :=
  Fin.ext (by dsimp only; omega)

/-- The queries, by head. -/
theorem query (j : Fin 4) (b : Fin 8) (h : Fin 4) (d : Fin 48) (t : Fin 784) :
    b126 j s (ix4 b h d t) = (part3 (L j) (Y b) (qkv 0 (chan h d)) t : EReal) := by
  pointwise [b126, b123]
  rw [weighted R]
  simp only [place]
  congr 2
  simp only [qkv, chan, Fin.mk.injEq]
  dsimp; omega

/-- The keys, by head. -/
theorem key (j : Fin 4) (b : Fin 8) (h : Fin 4) (d : Fin 48) (t : Fin 784) :
    b127 j s (ix4 b h d t) = (part3 (L j) (Y b) (qkv 1 (chan h d)) t : EReal) := by
  pointwise [b127, b124]
  rw [weighted R]
  simp only [place]
  congr 2
  simp only [qkv, chan, Fin.mk.injEq]
  dsimp; omega

/-- The values, by head. -/
theorem value (j : Fin 4) (b : Fin 8) (h : Fin 4) (d : Fin 48) (t : Fin 784) :
    b128 j s (ix4 b h d t) = (part3 (L j) (Y b) (qkv 2 (chan h d)) t : EReal) := by
  pointwise [b128, b125]
  rw [weighted R]
  simp only [place]
  congr 2
  simp only [qkv, chan, Fin.mk.injEq]
  dsimp; omega

/-- The scores of a head. -/
theorem scores (j : Fin 4) (b : Fin 8) (h : Fin 4) (t : Fin 784) :
    b135 j s (ix4 b h 0 t) = (score rootK (L j).q (pooledMix (L j).cw (L j).cb (Y b)) h t : EReal) := by
  pointwise [b135, b134, b133, b132, b131, b130, b129]
  simp only [query R, key R, rootK_bits, ← EReal.coe_mul, ← coe_sum]
  rw [div_real _ _ rootK_ne]
  rfl

/-- The weights that a head's places have. -/
theorem weights (j : Fin 4) (b : Fin 8) (h : Fin 4) (t : Fin 784) :
    b149 j s (ix4 b h 0 t) = (softmax (score rootK (L j).q (pooledMix (L j).cw (L j).cb (Y b)) h) t : EReal) := by
  pointwise [b149, b148, b147, b146, b145, b144, b143, b142, b141, b140, b139, b138, b137, b136]
  simp only [scores R, neg_inf]
  obtain ⟨M, hM⟩ := fold_max_real (fun t => (score rootK (L j).q (pooledMix (L j).cw (L j).cb (Y b)) h t : EReal))
    (fun _ => EReal.coe_ne_top _) 0 (EReal.coe_ne_bot _)
  rw [hM, max_eq_right bot_le]
  exact softmax_real _ M t

/-- What a head gives for a channel, repeated over the pooled image. -/
theorem heads (j : Fin 4) (b : Fin 8) (c : Fin 192) (y x : Fin 28) :
    b155 j s (ix4 b c y x) = (headOut rootK (L j).q (pooledMix (L j).cw (L j).cb (Y b)) c : EReal) := by
  pointwise [b155, b154, b153, b152, b151, b150]
  simp only [weights R, value R, ← EReal.coe_mul, ← coe_sum]
  have e : chan ⟨c.val / 48, by omega⟩ ⟨c.val % 48, by omega⟩ = c := Fin.ext (Nat.div_add_mod c.val 48)
  simp only [e]
  rfl

end Cert.ReferenceIdeal.Block
-- ==== Proof.RefResize.lean ====
module
public import proofs.«01_k».proof.Proof.RefPool

/-!
The reference's resize of a constant image leaves it constant: the weights of each place add up to one.
-/

@[expose] public section
set_option maxRecDepth 16384
noncomputable section
namespace Cert.ReferenceIdeal.Block
open Idealize.ShloMosaic
open Cert.ReferenceIdeal Cert.ReferenceIdeal.Gen Cert.ReferenceIdeal.Step Cert.RealBlock Cert.Coe
open Cert.KernelIdeal.Body (rootK eye_real const_9216)

/-- The weight, before scaling, of pooled row `h` in row `y`. -/
def tent (h : Fin 28) (y : Fin 56) : ℝ := max 0 (1 - |((y : ℝ) + 1 / 2) * (1 / 2) - 1 / 2 - (h : ℝ)|)

/-- Some pooled row weighs in. -/
theorem tent_sum_ne (y : Fin 56) : ∑ h, tent h y ≠ 0 := by
  have h0 : ∀ h, 0 ≤ tent h y := fun h => le_max_left _ _
  refine (Finset.sum_pos' (fun h _ => h0 h) ⟨⟨y / 2, by omega⟩, Finset.mem_univ _, ?_⟩).ne'
  have e : ((y : ℝ) + 1 / 2) * (1 / 2) - 1 / 2 - ((⟨y / 2, by omega⟩ : Fin 28) : ℝ) = ((y.val % 2 : ℕ) : ℝ) / 2 - 1 / 4 := by
    have : (y : ℝ) = 2 * ((y.val / 2 : ℕ) : ℝ) + ((y.val % 2 : ℕ) : ℝ) := by exact_mod_cast (Nat.div_add_mod y.val 2).symm
    dsimp only
    linarith
  have : y.val % 2 = 0 ∨ y.val % 2 = 1 := by omega
  rw [tent, e]
  refine lt_max_of_lt_right ?_
  rcases this with h | h <;> rw [h] <;> norm_num [abs_lt]

/-- The number a half's literal names. -/
theorem half_bits : Ideal.ofBits .f32 0x3F000000#32 = ((1 / 2 : ℝ) : EReal) := by
  simp [Ideal.ofBits, Ideal.ieee, -EReal.coe_mul]; norm_num

/-- A small number as a word, as a real. -/
theorem small_real (n : ℕ) (h : n < 56) : (FloatOps.sitofp (F := Ideal) .f32 (BitVec.ofNat 32 n) : EReal) = ((n : ℝ) : EReal) := by
  have e : ∀ n : Fin 56, (BitVec.ofNat 32 n).toInt = (n.val : ℤ) := by decide +kernel
  show (((BitVec.ofNat 32 n).toInt : ℝ) : EReal) = _
  rw [e ⟨n, h⟩, Int.cast_natCast]

/-- The absolute value of a real. -/
theorem abs_real (r : ℝ) : (FloatOps.absf (F := Ideal) (φ := .f32) (r : EReal) : EReal) = ((|r| : ℝ) : EReal) := by
  show max (r : EReal) (-(r : EReal)) = _
  rw [← EReal.coe_neg, ← coe_max, abs_eq_max_neg]

/-- The scaled weights. -/
def lerp (h : Fin 28) (y : Fin 56) : ℝ := tent h y / ∑ h', tent h' y

/-- The scaled weights of a place add up to one. -/
theorem lerp_sum (y : Fin 56) : ∑ h, lerp h y = 1 := by
  simp only [lerp]
  rw [← Finset.sum_div, div_self (tent_sum_ne y)]

variable (s : State Ideal) (j : Fin 4)

/-- The reference's weights of the rows before scaling, -/
theorem tent_rows (h : Fin 28) (y : Fin 56) : b178 j s (ix2 h y) = (tent h y : EReal) := by
  pointwise [b178, b177, b176, b175, b174, b173, b172, b171, b170, b169, b168, b167, b166, b165, b164, b163, b162, b161, b160, b159, b158, b157, b156]
  have a : (FloatOps.sitofp (F := Ideal) .f32 (BitVec.ofNat 32 y) : EReal) = ((y : ℝ) : EReal) := small_real y (by omega)
  have b : (FloatOps.sitofp (F := Ideal) .f32 (BitVec.ofNat 32 h) : EReal) = ((h : ℝ) : EReal) := small_real h (by omega)
  rw [a, b, half_bits, ← EReal.coe_add, ← EReal.coe_mul, ← EReal.coe_sub, ← EReal.coe_sub, abs_real, ← EReal.coe_one,
    ← EReal.coe_sub, ← EReal.coe_zero, ← coe_max]
  rfl

/-- the scaled ones, -/
theorem rows (h : Fin 28) (y : Fin 56) : b183 j s (ix2 h y) = (lerp h y : EReal) := by
  pointwise [b183, b182, b181, b180, b179]
  simp only [tent_rows, ← coe_sum]
  exact div_real _ _ (tent_sum_ne y)

/-- and those of the columns. -/
theorem columns (h : Fin 28) (y : Fin 56) : b211 j s (ix2 h y) = (lerp h y : EReal) := rows s j h y

variable {s} {L : Fin 4 → Layer} {Y : Fin 8 → Fin 192 → Fin 56 → Fin 56 → ℝ} (R : Real s L Y)
include R

/-- The resized image is the constant it resizes. -/
theorem resized (b : Fin 8) (c : Fin 192) (y x : Fin 56) :
    b214 j s (ix4 b c y x) = (headOut rootK (L j).q (pooledMix (L j).cw (L j).cb (Y b)) c : EReal) := by
  pointwise [b214, b213, b212]
  simp only [rows, columns, heads R, ← EReal.coe_mul, ← coe_sum]
  rw [← Finset.sum_mul, lerp_sum, one_mul, ← Finset.mul_sum, lerp_sum, mul_one]

/-- What the block adds to the scaled image. -/
theorem shifted (b : Fin 8) (o : Fin 192) (y x : Fin 56) :
    b219 j s (ix4 b o y x)
      = (blockConst rootK (L j).q (L j).bw (L j).bb (pooledMix (L j).cw (L j).cb (Y b)) o : EReal) := by
  pointwise [b219, b218, b217, b216, b215]
  simp only [resized j R, bw_at R, bb_at R]
  simp only [← EReal.coe_mul, ← coe_sum, ← EReal.coe_add]
  rw [blockConst]
  exact congrArg (fun z : ℝ => ((z + (L j).bb o : ℝ) : EReal)) (Finset.sum_congr rfl fun c _ => mul_comm _ _)

/-- The factor of the image. -/
theorem factor : b237 j s ix0 = (scale (L j).cw : EReal) := by
  pointwise [b237, b236, b235, b234, b233, b232, b231, b230, b229, b228, b227, b226, b225, b224, b223, b222, b221, b220]
  simp only [cw_at R]
  have e : ∀ a b : Fin 48, (FloatOps.uitofp (F := Ideal) .f32
      (IntOp.cmpi .eq (IntOp.addi (BitVec.ofNat 32 a) 0#32) (BitVec.ofNat 32 b)) : EReal)
      = ((if a = b then 1 else 0 : ℝ) : EReal) := fun a b => by
    rw [eye_real _ _ (by omega) (by omega)]
    simp only [Fin.ext_iff]
  simp only [e, const_9216, ← EReal.coe_mul, ← EReal.coe_sub, ← coe_sum]
  rw [div_real _ _ (by norm_num), ← EReal.coe_one, ← EReal.coe_sub]
  rfl

/-- One block of the reference. -/
theorem block (b : Fin 8) (o : Fin 192) (y x : Fin 56) :
    b240 j s (ix4 b o y x) = (nextImg rootK (L j) (Y b) o y x : EReal) := by
  pointwise [b240, b239, b238]
  rw [shifted j R, R.x]
  rw [factor j R, ← EReal.coe_mul, ← EReal.coe_add]
  rfl

end Cert.ReferenceIdeal.Block
-- ==== Proof.ValueIdeal.lean ====
module
public import proofs.«01_k».proof.Proof.EntriesIdeal

/-!
The kernel's result array: each grid point writes the image that the four blocks make of its input image.
-/

@[expose] public section
set_option maxRecDepth 16384
noncomputable section
namespace Cert.KernelIdeal.Body
open Idealize.ShloMosaic Idealize.ShloMosaic.TcCoe Idealize.SL.Sem
open Cert.KernelIdeal Cert.KernelIdeal.Gen Cert.RealBlock Cert.Coe

variable {m : (ℓ : Loc nD τ sig) → Buf (Elt Ideal) ℓ} {c : Dev nD} {L : Fin 4 → Layer}
  {X : Fin 8 → Fin 192 → Fin 56 → Fin 56 → ℝ}

/-- The blocks that the windows read at a grid point. -/
theorem idx : ∀ t : Fin cfg0.N, win0_0.index t = ![t.val, 0, 0] ∧ win0_1.index t = ![0, 0] ∧ win0_2.index t = ![0, 0]
    ∧ win0_3.index t = ![0, 0, 0, 0] ∧ win0_4.index t = ![0, 0, 0] ∧ win0_5.index t = ![0, 0, 0]
    ∧ win0_6.index t = ![0, 0, 0] ∧ win0_7.index t = ![0, 0, 0] ∧ win0_8.index t = ![t.val, 0, 0] :=
  (by decide +kernel : ∀ t : Fin grid0.N, _)

/-- The grid point's image. -/
def imgOf (t : Fin cfg0.N) : Fin 8 := ⟨t, lt_of_lt_of_eq t.isLt N_0⟩

theorem block0 (t : Fin cfg0.N) (ch : Fin 192) (l : Fin 3136) :
    iblk m c 0 t (ix3 0 ch l) = V m c main_v0 (ix3 (imgOf t) ch l) := by blk_ext [iblk, idx t, imgOf]
theorem block1 (t : Fin cfg0.N) : iblk m c 1 t = V m c main_v50 := by blk_ext! [iblk, idx t]
theorem block2 (t : Fin cfg0.N) : iblk m c 2 t = V m c main_v51 := by blk_ext! [iblk, idx t]
theorem block3 (t : Fin cfg0.N) : iblk m c 3 t = V m c main_arg1 := by blk_ext! [iblk, idx t]
theorem block4 (t : Fin cfg0.N) : iblk m c 4 t = V m c main_v48 := by blk_ext! [iblk, idx t]
theorem block5 (t : Fin cfg0.N) : iblk m c 5 t = V m c main_v27 := by blk_ext! [iblk, idx t]
theorem block6 (t : Fin cfg0.N) : iblk m c 6 t = V m c main_v34 := by blk_ext! [iblk, idx t]
theorem block7 (t : Fin cfg0.N) : iblk m c 7 t = V m c main_v49 := by blk_ext! [iblk, idx t]

/-- The small operands hold the blocks' weights. -/
theorem reads (A : Args m c L X) (t : Fin cfg0.N) :
    Reads rootK L (iblk m c 3 t) (iblk m c 4 t) (iblk m c 5 t) (iblk m c 6 t) (iblk m c 7 t) where
  cw j g a b := by rw [block3, V_main_arg1]; exact A.cw j g a b
  cb j n := by rw [block4]; exact bias_entry A j n
  a j n := by rw [block5]; exact joint_entry A j n
  be j n o := by rw [block6]; exact value_entry A j n o
  bb j o := by rw [block7]; exact shift_entry A j o

/-- What a grid point stores. -/
theorem stored (A : Args m c L X) (t : Fin cfg0.N) (ch : Fin 192) (l : Fin 3136) :
    outBlock (iblk m c 0 t) (iblk m c 1 t) (iblk m c 2 t) (iblk m c 3 t) (iblk m c 4 t) (iblk m c 5 t) (iblk m c 6 t)
        (iblk m c 7 t) (ix3 0 ch l)
      = (lastImg rootK L (X (imgOf t)) ch ⟨l / 56, by omega⟩ ⟨l % 56, by omega⟩ : EReal) :=
  outBlock_real rootK L (X (imgOf t)) _ _ _ _ _ (reads A t) _ _ _
    (fun ch l => by rw [block0]; exact x_entry A _ ch l)
    (fun n i => by rw [block1]; exact wall_entry A n i)
    (fun i n => by rw [block2]; exact wallt_entry A n i) ch l

/-- The result array before its last reshape, at an image, a channel and a place. -/
def flatAt (L : Fin 4 → Layer) (X : Fin 8 → Fin 192 → Fin 56 → Fin 56 → ℝ) (b : Fin 8) (ch : Fin 192) (l : Fin 3136) : EReal :=
  (lastImg rootK L (X b) ch ⟨l / 56, by omega⟩ ⟨l % 56, by omega⟩ : ℝ)

/-- The same as an array. -/
def flatResult (L : Fin 4 → Layer) (X : Fin 8 → Fin 192 → Fin 56 → Fin 56 → ℝ) : FVec Ideal S8x192x3136 .f32 :=
  fun j => flatAt L X (j 0) (j 1) (j 2)

/-- The launch leaves that array. -/
theorem final (A : Args m c L X) : (dats m 0 c).arrAt 8 (cfgs 0).N = flatResult L X := by
  refine (dats m 0 c).arrAt_eq_of_covers 8 _ (by decide +kernel) fun t _ y => ?_
  blk_simp
  rw [after0_8]
  idx_vars y
  obtain rfl : y0 = 0 := Subsingleton.elim _ _
  rw [stored A]
  have e : ((View.whole main_v52).slice (win0_8.rect t)).emb (ix3 0 y1 y2) = ix3 (imgOf t) y1 y2 := by
    blk_ext [idx t, imgOf]
  rw [e]
  rfl

end Cert.KernelIdeal.Body
-- ==== Proof.RunIdeal.lean ====
module
public import proofs.«01_k».proof.Proof.ValueIdeal

/-!
The kernel's run on real arguments: its result is what the four blocks make of each image.
-/

@[expose] public section
set_option maxRecDepth 16384
noncomputable section
namespace Cert.KernelIdeal.Body
open Idealize.ShloMosaic Idealize.ShloMosaic.TcCoe Idealize.SL.Sem
open Cert.KernelIdeal Cert.KernelIdeal.Gen Cert.RealBlock Cert.Coe

variable {m : (ℓ : Loc nD τ sig) → Buf (Elt Ideal) ℓ}

/-- The images after the four blocks, as an array. -/
def result (L : Fin 4 → Layer) (X : Fin 8 → Fin 192 → Fin 56 → Fin 56 → ℝ) : FVec Ideal S8x192x56x56 .f32 :=
  fun j => (lastImg rootK L (X (j 0)) (j 1) (j 2) (j 3) : EReal)

/-- The line after the launch folds the places back into rows and columns. -/
theorem tail_eq {c : Dev nD} {L : Fin 4 → Layer} {X : Fin 8 → Fin 192 → Fin 56 → Fin 56 → ℝ} (A : Args m c L X) :
    Pipeline.afterTail₀ cfgs (dats m) 0 (V0 m) [hostOps1] c main_v53 = result L X := by
  have e : Pipeline.afterTail₀ cfgs (dats m) 0 (V0 m) [hostOps1] c main_v53
      = StableHlo.after hostOps1 (Pipeline.withArrays spec0 c (V0 m c) fun w => (dats m 0 c).arrAt w (cfgs 0).N)
          (Proc.tc.devRef main_v53) := rfl
  rw [e]
  after_results
  have h : Pipeline.withArrays spec0 c (V0 m c) (fun w => (dats m 0 c).arrAt w (cfgs 0).N) (Proc.tc.devRef main_v52)
      = flatResult L X := (Pipeline.withArrays_arr spec0 (by decide) c (V0 m c) _ 8).trans (final A)
  rw [h]
  funext j
  idx_vars j
  pointwise
  show ((lastImg rootK L (X j0) j1 ⟨(j2 * 56 + j3) / 56, by omega⟩ ⟨(j2 * 56 + j3) % 56, by omega⟩ : ℝ) : EReal)
    = (lastImg rootK L (X j0) j1 j2 j3 : ℝ)
  congr 2 <;> (refine Fin.ext ?_; dsimp only; omega)

/-- From real arguments the kernel ends with its arguments unchanged and that array in its result. -/
theorem run (ρ : Dev nD → PrngReg) (L : Dev nD → Fin 4 → Layer) (X : Dev nD → Fin 8 → Fin 192 → Fin 56 → Fin 56 → ℝ)
    (A : ∀ c, Args m c (L c) (X c)) : θ_run defs (onTc (τ := τ) (main (F := Ideal))) ⟨m, fun _ => 0, ρ⟩ (fun r => ∀ c : Dev nD,
      r.2.mem ((c.tc : Thread nD τ).loc main_v53) = result (L c) (X c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1 c).trans (tail_eq (A c)), h.2 c⟩)
    (θ_run_and ((θ_run defs _ _).mono (fun _ h c => (h c).2 main_v53 (Pipeline.mem_restRefs_of main_v53 (by decide) (by decide)))
      (run_main m ρ)) (unchanged m ρ))

end Cert.KernelIdeal.Body
-- ==== Proof.RefRun.lean ====
module
public import proofs.«01_k».proof.Proof.RefResize
public import proofs.«01_k».proof.Proof.RunIdeal
public import proofs.«01_k».proof.Proof.Gen.ReferenceIdeal.StepRun

/-!
The reference's run on real arguments: its loop takes each image through the four blocks.
-/

@[expose] public section
set_option maxRecDepth 16384
noncomputable section
namespace Cert.ReferenceIdeal.Block
open Idealize.ShloMosaic Idealize.ShloMosaic.TcCoe Idealize.SL.Sem
open Cert.ReferenceIdeal Cert.ReferenceIdeal.Gen Cert.ReferenceIdeal.Step Cert.ReferenceIdeal.StepRun Cert.RealBlock
open Cert.KernelIdeal.Body (rootK result)

variable {L : Fin 4 → Layer}

/-- One trip takes each image through one block and keeps the weights. -/
theorem trip {s : State Ideal} {Y : Fin 8 → Fin 192 → Fin 56 → Fin 56 → ℝ} (j : Fin 4) (R : Real s L Y) :
    Real (step j s) L (fun b => nextImg rootK (L j) (Y b)) where
  x b c y x := by
    rw [step_main_v0_7]
    exact block j R b c y x
  cw := R.cw
  cb := R.cb
  q := R.q
  bw := R.bw
  bb := R.bb

/-- The states of the loop, from a first one. -/
def states (s : State Ideal) : ℕ → State Ideal
  | 0 => s
  | n + 1 => step n (states s n)

/-- After four trips the images are those after the four blocks. -/
theorem last {s : State Ideal} {X : Fin 8 → Fin 192 → Fin 56 → Fin 56 → ℝ} (R : Real s L X) :
    (states s 4).main_v0_7 = result L X := by
  have R4 := trip 3 (trip 2 (trip 1 (trip 0 R)))
  funext j
  idx_vars j
  exact R4.x j0 j1 j2 j3

variable {m : (ℓ : Loc nD τ sig) → Buf (Elt Ideal) ℓ}

/-- From real arguments the reference ends with its arguments unchanged and the kernel's array in its result. -/
theorem run (ρ : Dev nD → PrngReg) (L : Dev nD → Fin 4 → Layer) (X : Dev nD → Fin 8 → Fin 192 → Fin 56 → Fin 56 → ℝ)
    (R : ∀ c, Real (initState m c) (L c) (X c)) :
    θ_run defs (onTc (τ := τ) (main (F := Ideal))) ⟨m, fun _ => 0, ρ⟩ (fun r => ∀ c : Dev nD,
      r.2.mem ((c.tc : Thread nD τ).loc main_v0_7) = result (L c) (X c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (last (R c)), (h c).2⟩)
    (run_iter m ρ (fun c => states (initState m c)) (fun _ => rfl) (fun _ _ => rfl))

end Cert.ReferenceIdeal.Block
-- ==== Proof.Equal.lean ====
module
public import proofs.«01_k».proof.Defs
public import proofs.«01_k».proof.Proof.Finite
public import proofs.«01_k».proof.Proof.RefRun

/-!
Kernel and reference agree: finite arguments are real, and on real arguments both end with the same array.
-/

@[expose] public section
set_option maxRecDepth 16384
noncomputable section
namespace Cert.Equal
open Idealize.ShloMosaic Idealize.ShloMosaic.TcCoe Idealize.SL.Sem
open Cert.RealBlock Cert.ReferenceIdeal.StepRun

section
variable (m : (ℓ : Loc Cert.KernelIdeal.nD Cert.KernelIdeal.τ Cert.KernelIdeal.sig) → Buf (Elt Ideal) ℓ)
  (c : Dev Cert.KernelIdeal.nD)

/-- An argument array of the kernel. -/
abbrev arg0 : FVec Ideal Cert.KernelIdeal.S8x192x56x56 .f32 := m (c, Proc.tc.devRef Cert.KernelIdeal.main_arg0)
@[inherit_doc arg0] abbrev arg1 : FVec Ideal Cert.KernelIdeal.S4x4x48x48 .f32 := m (c, Proc.tc.devRef Cert.KernelIdeal.main_arg1)
@[inherit_doc arg0] abbrev arg2 : FVec Ideal Cert.KernelIdeal.S4x192 .f32 := m (c, Proc.tc.devRef Cert.KernelIdeal.main_arg2)
@[inherit_doc arg0] abbrev arg3 : FVec Ideal Cert.KernelIdeal.S4x576 .f32 := m (c, Proc.tc.devRef Cert.KernelIdeal.main_arg3)
@[inherit_doc arg0] abbrev arg4 : FVec Ideal Cert.KernelIdeal.S4x192x192 .f32 := m (c, Proc.tc.devRef Cert.KernelIdeal.main_arg4)
@[inherit_doc arg0] abbrev arg5 : FVec Ideal Cert.KernelIdeal.S4x192 .f32 := m (c, Proc.tc.devRef Cert.KernelIdeal.main_arg5)

/-- The real weights that the argument arrays hold. -/
def layers (j : Fin 4) : Layer where
  cw g a i := (arg1 m c (ix4 j g a i)).toReal
  cb ch := (arg2 m c (ix2 j ch)).toReal
  q w := (arg3 m c (ix2 j w)).toReal
  bw o i := (arg4 m c (ix3 j o i)).toReal
  bb o := (arg5 m c (ix2 j o)).toReal

/-- The real images that the first argument array holds. -/
def images (b : Fin 8) (ch : Fin 192) (y x : Fin 56) : ℝ := (arg0 m c (ix4 b ch y x)).toReal

end

/-- Finite argument arrays hold those weights and images. -/
theorem args {m : (ℓ : Loc Cert.KernelIdeal.nD Cert.KernelIdeal.τ Cert.KernelIdeal.sig) → Buf (Elt Ideal) ℓ}
    (h : Cert.Pre_KernelIdeal_all_finite (hPre_all_finite := Cert.Pre_all_finite.factsHold) m) (c : Dev Cert.KernelIdeal.nD) :
    Cert.KernelIdeal.Body.Args m c (layers m c) (images m c) := by
  obtain ⟨h0, h1, h2, h3, h4, h5⟩ := Cert.Pre_all_finite.reals _ _ _ _ _ _ (h c)
  exact ⟨fun _ _ _ _ => h0 _, fun _ _ _ _ => h1 _, fun _ _ => h2 _, fun _ _ => h3 _, fun _ _ _ => h4 _, fun _ _ => h5 _⟩

/-- From finite arguments, the same for both, kernel and reference end with the same result. -/
theorem algebraic : Cert.algebraic_KernelIdeal_ReferenceIdeal_pre_all_finite (hKernelIdeal := Cert.KernelIdeal.Gen.facts)
    (hReferenceIdeal := Cert.ReferenceIdeal.Gen.facts) (hPre_all_finite := Cert.Pre_all_finite.factsHold) := by
  intro m g m' g' h same
  have A := args h
  refine ⟨fun c => Cert.KernelIdeal.Body.result (layers m c) (images m c), Cert.KernelIdeal.Body.run g (layers m) (images m) A,
    Cert.ReferenceIdeal.Block.run g' (layers m) (images m) fun c => ?_⟩
  obtain ⟨e0, e1, e2, e3, e4, e5⟩ := same c
  exact ⟨fun _ _ _ _ => (congrFun e0 _).trans ((A c).x _ _ _ _), fun _ _ _ _ => (congrFun e1 _).trans ((A c).cw _ _ _ _),
    fun _ _ => (congrFun e2 _).trans ((A c).cb _ _), fun _ _ => (congrFun e3 _).trans ((A c).q _ _),
    fun _ _ _ => (congrFun e4 _).trans ((A c).bw _ _ _), fun _ _ => (congrFun e5 _).trans ((A c).bb _ _)⟩

end Cert.Equal
-- ==== Proof.lean ====
/- The certificate: the frames of the kernel and of the reference, the one rewrite, and the equation. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.ReferenceIdeal.StepRun
public import proofs.«01_k».proof.Proof.Launched
public import proofs.«01_k».proof.Proof.LaunchedIdeal
public import proofs.«01_k».proof.Proof.RefFrame
public import proofs.«01_k».proof.Proof.Equal
public import Idealize.ShloMosaic.Adequacy
public import Idealize.ShloMosaic.Init

@[expose] public section

noncomputable section

namespace Cert.Proof

open Idealize.ShloMosaic Idealize.SL.Sem Cert.Kernel

/-- All the claims together. -/
theorem claim : Cert.Claim :=
  ⟨Cert.Kernel.Gen.facts, Cert.KernelIdeal.Gen.facts, Cert.ReferenceIdeal.Gen.facts, Cert.Pre_all_finite.factsHold,
    fun m ρ _ => Cert.Kernel.Body.frame m ρ,
    fun m ρ _ => Cert.KernelIdeal.Body.frame m ρ,
    fun m ρ _ => Cert.KernelIdeal.Body.frame m ρ,
    fun m ρ _ => Cert.ReferenceIdeal.Frame.frame m ρ,
    fun m ρ _ => Cert.ReferenceIdeal.Frame.frame m ρ,
    IdealRules.named_const.statement Cert.KernelIdeal.κ "mask" .f32 0xF149F2CA#32 ⊥ rfl,
    Cert.Equal.algebraic⟩

end Cert.Proof

end
